-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_inputs [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_inputs [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite_inputs [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_inputs m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite_inputs [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_inputs m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal_pre_finite_inputs [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_inputs m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v5)) (v1 : (c : Dev Cert.KernelIdeal.nD) → Buf (Elt Ideal) ((c.tc : Thread Cert.KernelIdeal.nD Cert.KernelIdeal.τ).loc Cert.KernelIdeal.main_v4_1)) (v2 : (c : Dev Cert.KernelIdeal.nD) → Buf (Elt Ideal) ((c.tc : Thread Cert.KernelIdeal.nD Cert.KernelIdeal.τ).loc Cert.KernelIdeal.main_v7)) (v3 : (c : Dev Cert.KernelIdeal.nD) → Buf (Elt Ideal) ((c.tc : Thread Cert.KernelIdeal.nD Cert.KernelIdeal.τ).loc Cert.KernelIdeal.main_v7)) (v4 : (c : Dev Cert.KernelIdeal.nD) → Buf (Elt Ideal) ((c.tc : Thread Cert.KernelIdeal.nD Cert.KernelIdeal.τ).loc Cert.KernelIdeal.main_v4_2)) (v5 : (c : Dev Cert.KernelIdeal.nD) → Buf (Elt Ideal) ((c.tc : Thread Cert.KernelIdeal.nD Cert.KernelIdeal.τ).loc Cert.KernelIdeal.main_v4_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_v4_1) = v1 c
          ∧ r.2.mem ((c.tc : Thread Cert.KernelIdeal.nD Cert.KernelIdeal.τ).loc Cert.KernelIdeal.main_v7) = v2 c
          ∧ r.2.mem ((c.tc : Thread Cert.KernelIdeal.nD Cert.KernelIdeal.τ).loc Cert.KernelIdeal.main_v7) = v3 c
          ∧ r.2.mem ((c.tc : Thread Cert.KernelIdeal.nD Cert.KernelIdeal.τ).loc Cert.KernelIdeal.main_v4_2) = v4 c
          ∧ r.2.mem ((c.tc : Thread Cert.KernelIdeal.nD Cert.KernelIdeal.τ).loc Cert.KernelIdeal.main_v4_3) = v5 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v49) = v0 c
          ∧ r.2.mem ((c.tc : Thread Cert.ReferenceIdeal.nD Cert.ReferenceIdeal.τ).loc Cert.ReferenceIdeal.main_v64) = v1 c
          ∧ r.2.mem ((c.tc : Thread Cert.ReferenceIdeal.nD Cert.ReferenceIdeal.τ).loc Cert.ReferenceIdeal.main_v55) = v2 c
          ∧ r.2.mem ((c.tc : Thread Cert.ReferenceIdeal.nD Cert.ReferenceIdeal.τ).loc Cert.ReferenceIdeal.main_v59) = v3 c
          ∧ r.2.mem ((c.tc : Thread Cert.ReferenceIdeal.nD Cert.ReferenceIdeal.τ).loc Cert.ReferenceIdeal.main_v18) = v4 c
          ∧ r.2.mem ((c.tc : Thread Cert.ReferenceIdeal.nD Cert.ReferenceIdeal.τ).loc Cert.ReferenceIdeal.main_v61) = v5 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    quiescent_Kernel (hKernel := hKernel)
    ∧ quiescent_KernelIdeal (hKernelIdeal := hKernelIdeal)
    ∧ quiescent_KernelIdeal_pre_finite_inputs (hKernelIdeal := hKernelIdeal) (hPre_finite_inputs := hPre_finite_inputs)
    ∧ quiescent_ReferenceIdeal (hReferenceIdeal := hReferenceIdeal)
    ∧ quiescent_ReferenceIdeal_pre_finite_inputs (hReferenceIdeal := hReferenceIdeal) (hPre_finite_inputs := hPre_finite_inputs)
    ∧ preserves_Kernel_KernelIdeal
    ∧ algebraic_KernelIdeal_ReferenceIdeal_pre_finite_inputs (hKernelIdeal := hKernelIdeal) (hReferenceIdeal := hReferenceIdeal) (hPre_finite_inputs := hPre_finite_inputs)
-- ==== Pre_finite_inputs.lean ====
abbrev S8x1024x2048 : Shape := ⟨3, ![8, 1024, 2048]⟩
abbrev S1024x64 : Shape := ⟨2, ![1024, 64]⟩
abbrev S64x1024x1 : Shape := ⟨3, ![64, 1024, 1]⟩
abbrev S64x1x1 : Shape := ⟨3, ![64, 1, 1]⟩
abbrev S1024x64x1 : Shape := ⟨3, ![1024, 64, 1]⟩
abbrev S1024x1x1 : Shape := ⟨3, ![1024, 1, 1]⟩
abbrev S_ : Shape := ⟨0, ![]⟩
abbrev S64 : Shape := ⟨1, ![64]⟩

class Facts : Prop where
  bcast_S_S8x1024x2048 : S_.BroadcastsInDim S8x1024x2048 (![] : Fin 0 → Fin S8x1024x2048.rank)
  reducesTo_S8x1024x2048_S_d0_1_2 : S8x1024x2048.ReducesTo [0, 1, 2] S_
  h_S_ : 0 < S_.numel
  bcast_S_S64x1x1 : S_.BroadcastsInDim S64x1x1 (![] : Fin 0 → Fin S64x1x1.rank)
  reducesTo_S64x1x1_S_d0_1_2 : S64x1x1.ReducesTo [0, 1, 2] S_
  reducesTo_S64x1024x1_S64_d1_2 : S64x1024x1.ReducesTo [1, 2] S64
  bcast_S_S64 : S_.BroadcastsInDim S64 (![] : Fin 0 → Fin S64.rank)
  reducesTo_S64_S_d0 : S64.ReducesTo [0] S_

variable [Facts]

def fn {F : FTy → Type} [FloatOps F] (main_arg0 : FVec F S8x1024x2048 .f32) (main_arg1 : FVec F S1024x64 .f32) (main_arg2 : FVec F S64x1024x1 .f32) (main_arg3 : FVec F S64x1x1 .f32) (main_arg4 : FVec F S1024x64x1 .f32) (main_arg5 : FVec F S1024x1x1 .f32) : IVec S_ 1 :=
  let main_v0 : FVec F S8x1024x2048 .f32 := Host.absf main_arg0
  let main_cst : FVec F S_ .f32 := constant S_ .f32 0x7F800000#32
  let main_v1 : FVec F S8x1024x2048 .f32 := broadcastInDim S8x1024x2048 ![] bcast_S_S8x1024x2048 main_cst
  let main_v2 : IVec S8x1024x2048 1 := cmpf .olt main_v0 main_v1
  let main_c : IVec S_ 1 := constantI S_ 1 1#1
  let main_v3 : IVec S_ 1 := (fun x v => Host.reduce IntOp.andi x v reducesTo_S8x1024x2048_S_d0_1_2 h_S_) main_v2 main_c
  let main_v4 : FVec F S64x1x1 .f32 := Host.absf main_arg3
  let main_cst_0 : FVec F S_ .f32 := constant S_ .f32 0x7F800000#32
  let main_v5 : FVec F S64x1x1 .f32 := broadcastInDim S64x1x1 ![] bcast_S_S64x1x1 main_cst_0
  let main_v6 : IVec S64x1x1 1 := cmpf .olt main_v4 main_v5
  let main_c_1 : IVec S_ 1 := constantI S_ 1 1#1
  let main_v7 : IVec S_ 1 := (fun x v => Host.reduce IntOp.andi x v reducesTo_S64x1x1_S_d0_1_2 h_S_) main_v6 main_c_1
  let main_v8 : IVec S_ 1 := andi main_v3 main_v7
  let main_v9 : FVec F S64x1024x1 .f32 := mulf main_arg2 main_arg2
  let main_cst_2 : FVec F S_ .f32 := constant S_ .f32 0x00000000#32
  let main_v10 : FVec F S64 .f32 := (fun x v => Host.reduceAdd x v reducesTo_S64x1024x1_S64_d1_2 h_S_) main_v9 main_cst_2
  let main_cst_3 : FVec F S_ .f32 := constant S_ .f32 0x00000000#32
  let main_v11 : FVec F S64 .f32 := broadcastInDim S64 ![] bcast_S_S64 main_cst_3
  let main_v12 : IVec S64 1 := cmpf .ogt main_v10 main_v11
  let main_c_4 : IVec S_ 1 := constantI S_ 1 1#1
  let main_v13 : IVec S_ 1 := (fun x v => Host.reduce IntOp.andi x v reducesTo_S64_S_d0 h_S_) main_v12 main_c_4
  let main_v14 : IVec S_ 1 := andi main_v8 main_v13
  main_v14
-- ==== Kernel.lean ====
abbrev S8x1024x2048 : Shape := ⟨3, ![8, 1024, 2048]⟩
abbrev S1024x64 : Shape := ⟨2, ![1024, 64]⟩
abbrev S64x1024x1 : Shape := ⟨3, ![64, 1024, 1]⟩
abbrev S64x1x1 : Shape := ⟨3, ![64, 1, 1]⟩
abbrev S1024x64x1 : Shape := ⟨3, ![1024, 64, 1]⟩
abbrev S1024x1x1 : Shape := ⟨3, ![1024, 1, 1]⟩
abbrev S64x1024 : Shape := ⟨2, ![64, 1024]⟩
abbrev S64x1 : Shape := ⟨2, ![64, 1]⟩
abbrev S1024x1 : Shape := ⟨2, ![1024, 1]⟩
abbrev S16x1x1024 : Shape := ⟨3, ![16, 1, 1024]⟩
abbrev S8x64x2048 : Shape := ⟨3, ![8, 64, 2048]⟩
abbrev S16x1x1 : Shape := ⟨3, ![16, 1, 1]⟩
abbrev S1x1024x1024 : Shape := ⟨3, ![1, 1024, 1024]⟩
abbrev S1x1x1024 : Shape := ⟨3, ![1, 1, 1024]⟩
abbrev S1x64x1024 : Shape := ⟨3, ![1, 64, 1024]⟩
abbrev S1x1x1 : Shape := ⟨3, ![1, 1, 1]⟩
abbrev S64 : Shape := ⟨1, ![64]⟩
abbrev S1024 : Shape := ⟨1, ![1024]⟩
abbrev S1024x1024 : Shape := ⟨2, ![1024, 1024]⟩
abbrev S1x1024 : Shape := ⟨2, ![1, 1024]⟩
abbrev S1 : Shape := ⟨1, ![1]⟩
abbrev S1x1 : Shape := ⟨2, ![1, 1]⟩
abbrev S8x2048 : Shape := ⟨2, ![8, 2048]⟩
abbrev S_ : Shape := ⟨0, ![]⟩

abbrev nBuf : Space → Nat
  | .hbm => 20
  | .vmem => 22
  | .smem => 0
  | _ => 0

abbrev bufTy : (tb : Table) → Fin (tcTables nBuf tb) → BufTy
  | .hbm, ⟨0, _⟩ => ⟨S8x1024x2048, .f32⟩
  | .hbm, ⟨1, _⟩ => ⟨S1024x64, .f32⟩
  | .hbm, ⟨2, _⟩ => ⟨S64x1024x1, .f32⟩
  | .hbm, ⟨3, _⟩ => ⟨S64x1x1, .f32⟩
  | .hbm, ⟨4, _⟩ => ⟨S1024x64x1, .f32⟩
  | .hbm, ⟨5, _⟩ => ⟨S1024x1x1, .f32⟩
  | .hbm, ⟨6, _⟩ => ⟨S64x1024, .f32⟩
  | .hbm, ⟨7, _⟩ => ⟨S64x1, .f32⟩
  | .hbm, ⟨8, _⟩ => ⟨S1024x64, .f32⟩
  | .hbm, ⟨9, _⟩ => ⟨S1024x1, .f32⟩
  | .hbm, ⟨10, _⟩ => ⟨S16x1x1024, .i32⟩
  | .hbm, ⟨11, _⟩ => ⟨S8x1024x2048, .f32⟩
  | .hbm, ⟨12, _⟩ => ⟨S8x64x2048, .f32⟩
  | .hbm, ⟨13, _⟩ => ⟨S8x64x2048, .f32⟩
  | .hbm, ⟨14, _⟩ => ⟨S16x1x1, .f32⟩
  | .hbm, ⟨15, _⟩ => ⟨S8x2048, .i32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .local _ .vmem, ⟨0, _⟩ => ⟨S1x1024x1024, .f32⟩
  | .local _ .vmem, ⟨1, _⟩ => ⟨S1x1024x1024, .f32⟩
  | .local _ .vmem, ⟨2, _⟩ => ⟨S1024x64, .f32⟩
  | .local _ .vmem, ⟨3, _⟩ => ⟨S64x1024, .f32⟩
  | .local _ .vmem, ⟨4, _⟩ => ⟨S64x1, .f32⟩
  | .local _ .vmem, ⟨5, _⟩ => ⟨S1024x64, .f32⟩
  | .local _ .vmem, ⟨6, _⟩ => ⟨S1024x1, .f32⟩
  | .local _ .vmem, ⟨7, _⟩ => ⟨S1x1x1024, .i32⟩
  | .local _ .vmem, ⟨8, _⟩ => ⟨S1x1x1024, .i32⟩
  | .local _ .vmem, ⟨9, _⟩ => ⟨S1x1024x1024, .f32⟩
  | .local _ .vmem, ⟨10, _⟩ => ⟨S1x1024x1024, .f32⟩
  | .local _ .vmem, ⟨11, _⟩ => ⟨S1x64x1024, .f32⟩
  | .local _ .vmem, ⟨12, _⟩ => ⟨S1x64x1024, .f32⟩
  | .local _ .vmem, ⟨13, _⟩ => ⟨S1x64x1024, .f32⟩
  | .local _ .vmem, ⟨14, _⟩ => ⟨S1x64x1024, .f32⟩
  | .local _ .vmem, ⟨15, _⟩ => ⟨S1x1x1, .f32⟩
  | .local _ .vmem, ⟨16, _⟩ => ⟨S1x1x1, .f32⟩
  | .local _ .vmem, ⟨17, _⟩ => ⟨S64x1024, .f32⟩
  | .local _ .vmem, ⟨18, _⟩ => ⟨S1024x64, .f32⟩
  | .local _ .vmem, ⟨19, _⟩ => ⟨S64x1024, .f32⟩
  | .local _ .vmem, ⟨20, _⟩ => ⟨S64x1024, .f32⟩
  | .local _ .vmem, ⟨21, _⟩ => ⟨S1024x1, .f32⟩
  | _, _ => ⟨S8x1024x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4_0 : Ref sig .tc := ⟨.hbm, 10, rfl⟩
abbrev main_v4_1 : Ref sig .tc := ⟨.hbm, 11, rfl⟩
abbrev main_v4_2 : Ref sig .tc := ⟨.hbm, 12, rfl⟩
abbrev main_v4_3 : Ref sig .tc := ⟨.hbm, 13, rfl⟩
abbrev main_v4_4 : Ref sig .tc := ⟨.hbm, 14, rfl⟩
abbrev main_v5 : Ref sig .tc := ⟨.hbm, 15, rfl⟩
abbrev main_cst : Ref sig .tc := ⟨.hbm, 16, rfl⟩
abbrev main_v6 : Ref sig .tc := ⟨.hbm, 17, rfl⟩
abbrev main_cst_0 : Ref sig .tc := ⟨.hbm, 18, rfl⟩
abbrev main_v7 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_scratch0 : Ref sig .tc := ⟨.vmem, 17, rfl⟩
abbrev cc0_scratch1 : Ref sig .tc := ⟨.vmem, 18, rfl⟩
abbrev cc0_scratch2 : Ref sig .tc := ⟨.vmem, 19, rfl⟩
abbrev cc0_scratch3 : Ref sig .tc := ⟨.vmem, 20, rfl⟩
abbrev cc0_scratch4 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16

abbrev nD : Nat := 1
abbrev τ : Topo := Topo.v7x

variable {F : FTy → Type} [FloatOps F]

abbrev grid0 : Pipeline.Grid := ⟨2, ![8, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_10 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1024x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S64x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S64x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1024x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x1x1024 .i32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x1024x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x64x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x64x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x1x1 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== ReferenceIdeal.lean ====
abbrev S8x1024x2048 : Shape := ⟨3, ![8, 1024, 2048]⟩
abbrev S1024x64 : Shape := ⟨2, ![1024, 64]⟩
abbrev S64x1024x1 : Shape := ⟨3, ![64, 1024, 1]⟩
abbrev S64x1x1 : Shape := ⟨3, ![64, 1, 1]⟩
abbrev S1024x64x1 : Shape := ⟨3, ![1024, 64, 1]⟩
abbrev S1024x1x1 : Shape := ⟨3, ![1024, 1, 1]⟩
abbrev S_ : Shape := ⟨0, ![]⟩
abbrev S64 : Shape := ⟨1, ![64]⟩
abbrev S1024 : Shape := ⟨1, ![1024]⟩
abbrev S64x1024 : Shape := ⟨2, ![64, 1024]⟩
abbrev S8x2048x64 : Shape := ⟨3, ![8, 2048, 64]⟩
abbrev S8x64x2048 : Shape := ⟨3, ![8, 64, 2048]⟩
abbrev S8x2048 : Shape := ⟨2, ![8, 2048]⟩
abbrev S8x1x2048 : Shape := ⟨3, ![8, 1, 2048]⟩
abbrev S1024x1 : Shape := ⟨2, ![1024, 1]⟩
abbrev S8x2048x1 : Shape := ⟨3, ![8, 2048, 1]⟩
abbrev S1x1x1024 : Shape := ⟨3, ![1, 1, 1024]⟩
abbrev S8x2048x1024 : Shape := ⟨3, ![8, 2048, 1024]⟩
abbrev S1 : Shape := ⟨1, ![1]⟩
abbrev S1x1x1 : Shape := ⟨3, ![1, 1, 1]⟩

abbrev nBuf : Space → Nat
  | .hbm => 110
  | .vmem => 0
  | .smem => 0
  | _ => 0

abbrev bufTy : (tb : Table) → Fin (tcTables nBuf tb) → BufTy
  | .hbm, ⟨0, _⟩ => ⟨S8x1024x2048, .f32⟩
  | .hbm, ⟨1, _⟩ => ⟨S1024x64, .f32⟩
  | .hbm, ⟨2, _⟩ => ⟨S64x1024x1, .f32⟩
  | .hbm, ⟨3, _⟩ => ⟨S64x1x1, .f32⟩
  | .hbm, ⟨4, _⟩ => ⟨S1024x64x1, .f32⟩
  | .hbm, ⟨5, _⟩ => ⟨S1024x1x1, .f32⟩
  | .hbm, ⟨6, _⟩ => ⟨S64x1024x1, .f32⟩
  | .hbm, ⟨7, _⟩ => ⟨S_, .f32⟩
  | .hbm, ⟨8, _⟩ => ⟨S64, .f32⟩
  | .hbm, ⟨9, _⟩ => ⟨S64x1x1, .f32⟩
  | .hbm, ⟨10, _⟩ => ⟨S64x1x1, .f32⟩
  | .hbm, ⟨11, _⟩ => ⟨S64x1024x1, .f32⟩
  | .hbm, ⟨12, _⟩ => ⟨S64x1024x1, .f32⟩
  | .hbm, ⟨13, _⟩ => ⟨S64x1024x1, .f32⟩
  | .hbm, ⟨14, _⟩ => ⟨S64x1024x1, .f32⟩
  | .hbm, ⟨15, _⟩ => ⟨S1024x64x1, .f32⟩
  | .hbm, ⟨16, _⟩ => ⟨S_, .f32⟩
  | .hbm, ⟨17, _⟩ => ⟨S1024, .f32⟩
  | .hbm, ⟨18, _⟩ => ⟨S1024x1x1, .f32⟩
  | .hbm, ⟨19, _⟩ => ⟨S1024x1x1, .f32⟩
  | .hbm, ⟨20, _⟩ => ⟨S1024x64x1, .f32⟩
  | .hbm, ⟨21, _⟩ => ⟨S1024x64x1, .f32⟩
  | .hbm, ⟨22, _⟩ => ⟨S1024x64x1, .f32⟩
  | .hbm, ⟨23, _⟩ => ⟨S1024x64x1, .f32⟩
  | .hbm, ⟨24, _⟩ => ⟨S64x1024, .f32⟩
  | .hbm, ⟨25, _⟩ => ⟨S8x2048x64, .f32⟩
  | .hbm, ⟨26, _⟩ => ⟨S8x64x2048, .f32⟩
  | .hbm, ⟨27, _⟩ => ⟨S8x64x2048, .f32⟩
  | .hbm, ⟨28, _⟩ => ⟨S_, .f32⟩
  | .hbm, ⟨29, _⟩ => ⟨S8x2048, .f32⟩
  | .hbm, ⟨30, _⟩ => ⟨S8x1x2048, .f32⟩
  | .hbm, ⟨31, _⟩ => ⟨S8x1x2048, .f32⟩
  | .hbm, ⟨32, _⟩ => ⟨S_, .f32⟩
  | .hbm, ⟨33, _⟩ => ⟨S8x1x2048, .f32⟩
  | .hbm, ⟨34, _⟩ => ⟨S8x1x2048, .f32⟩
  | .hbm, ⟨35, _⟩ => ⟨S8x64x2048, .f32⟩
  | .hbm, ⟨36, _⟩ => ⟨S8x64x2048, .f32⟩
  | .hbm, ⟨37, _⟩ => ⟨S1024x64, .f32⟩
  | .hbm, ⟨38, _⟩ => ⟨S_, .f32⟩
  | .hbm, ⟨39, _⟩ => ⟨S1024, .f32⟩
  | .hbm, ⟨40, _⟩ => ⟨S1024x1, .f32⟩
  | .hbm, ⟨41, _⟩ => ⟨S1024x1, .f32⟩
  | .hbm, ⟨42, _⟩ => ⟨S_, .f32⟩
  | .hbm, ⟨43, _⟩ => ⟨S1024x1, .f32⟩
  | .hbm, ⟨44, _⟩ => ⟨S1024x1, .f32⟩
  | .hbm, ⟨45, _⟩ => ⟨S1024x64, .f32⟩
  | .hbm, ⟨46, _⟩ => ⟨S1024x64, .f32⟩
  | .hbm, ⟨47, _⟩ => ⟨S8x2048x64, .f32⟩
  | .hbm, ⟨48, _⟩ => ⟨S8x2048x64, .f32⟩
  | .hbm, ⟨49, _⟩ => ⟨S_, .f32⟩
  | .hbm, ⟨50, _⟩ => ⟨S8x2048, .f32⟩
  | .hbm, ⟨51, _⟩ => ⟨S8x2048x1, .f32⟩
  | .hbm, ⟨52, _⟩ => ⟨S1024x64, .f32⟩
  | .hbm, ⟨53, _⟩ => ⟨S_, .f32⟩
  | .hbm, ⟨54, _⟩ => ⟨S1024, .f32⟩
  | .hbm, ⟨55, _⟩ => ⟨S1x1x1024, .f32⟩
  | .hbm, ⟨56, _⟩ => ⟨S8x2048x1024, .f32⟩
  | .hbm, ⟨57, _⟩ => ⟨S8x2048x1024, .f32⟩
  | .hbm, ⟨58, _⟩ => ⟨S8x2048x1024, .f32⟩
  | .hbm, ⟨59, _⟩ => ⟨S8x2048x1024, .f32⟩
  | .hbm, ⟨60, _⟩ => ⟨S_, .f32⟩
  | .hbm, ⟨61, _⟩ => ⟨S8x2048x1024, .f32⟩
  | .hbm, ⟨62, _⟩ => ⟨S8x2048x1024, .f32⟩
  | .hbm, ⟨63, _⟩ => ⟨S8x2048x1024, .f32⟩
  | .hbm, ⟨64, _⟩ => ⟨S8x2048x1024, .i32⟩
  | .hbm, ⟨65, _⟩ => ⟨S_, .f32⟩
  | .hbm, ⟨66, _⟩ => ⟨S_, .i32⟩
  | .hbm, ⟨67, _⟩ => ⟨S8x2048, .f32⟩
  | .hbm, ⟨68, _⟩ => ⟨S8x2048, .i32⟩
  | .hbm, ⟨69, _⟩ => ⟨S_, .i32⟩
  | .hbm, ⟨70, _⟩ => ⟨S8x2048, .i32⟩
  | .hbm, ⟨71, _⟩ => ⟨S8x2048, .i1⟩
  | .hbm, ⟨72, _⟩ => ⟨S_, .i32⟩
  | .hbm, ⟨73, _⟩ => ⟨S8x2048, .i32⟩
  | .hbm, ⟨74, _⟩ => ⟨S8x2048, .i32⟩
  | .hbm, ⟨75, _⟩ => ⟨S8x2048, .i32⟩
  | .hbm, ⟨76, _⟩ => ⟨S8x2048x1, .i32⟩
  | .hbm, ⟨77, _⟩ => ⟨S1, .i32⟩
  | .hbm, ⟨78, _⟩ => ⟨S_, .i32⟩
  | .hbm, ⟨79, _⟩ => ⟨S8x2048x1, .i32⟩
  | .hbm, ⟨80, _⟩ => ⟨S8x2048x1, .i1⟩
  | .hbm, ⟨81, _⟩ => ⟨S1x1x1, .i32⟩
  | .hbm, ⟨82, _⟩ => ⟨S8x2048x1, .i32⟩
  | .hbm, ⟨83, _⟩ => ⟨S8x2048x1, .i1⟩
  | .hbm, ⟨84, _⟩ => ⟨S8x2048x1, .i1⟩
  | .hbm, ⟨85, _⟩ => ⟨S_, .i1⟩
  | .hbm, ⟨86, _⟩ => ⟨S8x2048, .i1⟩
  | .hbm, ⟨87, _⟩ => ⟨S8x2048x64, .f32⟩
  | .hbm, ⟨88, _⟩ => ⟨S8x2048x64, .i1⟩
  | .hbm, ⟨89, _⟩ => ⟨S_, .f32⟩
  | .hbm, ⟨90, _⟩ => ⟨S8x2048x64, .f32⟩
  | .hbm, ⟨91, _⟩ => ⟨S8x2048x64, .f32⟩
  | .hbm, ⟨92, _⟩ => ⟨S8x64x2048, .f32⟩
  | .hbm, ⟨93, _⟩ => ⟨S8x64x2048, .f32⟩
  | .hbm, ⟨94, _⟩ => ⟨S8x64x2048, .f32⟩
  | .hbm, ⟨95, _⟩ => ⟨S_, .f32⟩
  | .hbm, ⟨96, _⟩ => ⟨S_, .f32⟩
  | .hbm, ⟨97, _⟩ => ⟨S_, .f32⟩
  | .hbm, ⟨98, _⟩ => ⟨S_, .f32⟩
  | .hbm, ⟨99, _⟩ => ⟨S8x64x2048, .f32⟩
  | .hbm, ⟨100, _⟩ => ⟨S8x64x2048, .f32⟩
  | .hbm, ⟨101, _⟩ => ⟨S_, .f32⟩
  | .hbm, ⟨102, _⟩ => ⟨S_, .f32⟩
  | .hbm, ⟨103, _⟩ => ⟨S_, .f32⟩
  | .hbm, ⟨104, _⟩ => ⟨S_, .f32⟩
  | .hbm, ⟨105, _⟩ => ⟨S8x64x2048, .f32⟩
  | .hbm, ⟨106, _⟩ => ⟨S8x64x2048, .f32⟩
  | .hbm, ⟨107, _⟩ => ⟨S1024x64, .f32⟩
  | .hbm, ⟨108, _⟩ => ⟨S8x2048x1024, .f32⟩
  | .hbm, ⟨109, _⟩ => ⟨S8x1024x2048, .f32⟩
  | _, _ => ⟨S8x1024x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst_1 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst_2 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_cst_3 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_cst_4 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_cst_5 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_cst_6 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_cst_7 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_call0_v0 : Ref sig .tc := ⟨.hbm, 64, rfl⟩
abbrev main_call0_cst : Ref sig .tc := ⟨.hbm, 65, rfl⟩
abbrev main_call0_c : Ref sig .tc := ⟨.hbm, 66, rfl⟩
abbrev main_call0_v1_0 : Ref sig .tc := ⟨.hbm, 67, rfl⟩
abbrev main_v49 : Ref sig .tc := ⟨.hbm, 68, rfl⟩
abbrev main_call1_c : Ref sig .tc := ⟨.hbm, 69, rfl⟩
abbrev main_call1_v0 : Ref sig .tc := ⟨.hbm, 70, rfl⟩
abbrev main_call1_v1 : Ref sig .tc := ⟨.hbm, 71, rfl⟩
abbrev main_call1_c_0 : Ref sig .tc := ⟨.hbm, 72, rfl⟩
abbrev main_call1_v2 : Ref sig .tc := ⟨.hbm, 73, rfl⟩
abbrev main_call1_v3 : Ref sig .tc := ⟨.hbm, 74, rfl⟩
abbrev main_call1_v4 : Ref sig .tc := ⟨.hbm, 75, rfl⟩
abbrev main_call1_v5 : Ref sig .tc := ⟨.hbm, 76, rfl⟩
abbrev main_call1_c_1 : Ref sig .tc := ⟨.hbm, 77, rfl⟩
abbrev main_call1_c_2 : Ref sig .tc := ⟨.hbm, 78, rfl⟩
abbrev main_call1_v6 : Ref sig .tc := ⟨.hbm, 79, rfl⟩
abbrev main_call1_v7 : Ref sig .tc := ⟨.hbm, 80, rfl⟩
abbrev main_call1_v8 : Ref sig .tc := ⟨.hbm, 81, rfl⟩
abbrev main_call1_v9 : Ref sig .tc := ⟨.hbm, 82, rfl⟩
abbrev main_call1_v10 : Ref sig .tc := ⟨.hbm, 83, rfl⟩
abbrev main_call1_v11 : Ref sig .tc := ⟨.hbm, 84, rfl⟩
abbrev main_call1_c_3 : Ref sig .tc := ⟨.hbm, 85, rfl⟩
abbrev main_call1_v12 : Ref sig .tc := ⟨.hbm, 86, rfl⟩
abbrev main_call1_v13 : Ref sig .tc := ⟨.hbm, 87, rfl⟩
abbrev main_call1_v14 : Ref sig .tc := ⟨.hbm, 88, rfl⟩
abbrev main_call1_cst : Ref sig .tc := ⟨.hbm, 89, rfl⟩
abbrev main_call1_v15 : Ref sig .tc := ⟨.hbm, 90, rfl⟩
abbrev main_v50 : Ref sig .tc := ⟨.hbm, 91, rfl⟩
abbrev main_v51 : Ref sig .tc := ⟨.hbm, 92, rfl⟩
abbrev main_v52 : Ref sig .tc := ⟨.hbm, 93, rfl⟩
abbrev main_v53 : Ref sig .tc := ⟨.hbm, 94, rfl⟩
abbrev main_cst_8 : Ref sig .tc := ⟨.hbm, 95, rfl⟩
abbrev main_v54 : Ref sig .tc := ⟨.hbm, 96, rfl⟩
abbrev main_cst_9 : Ref sig .tc := ⟨.hbm, 97, rfl⟩
abbrev main_v55 : Ref sig .tc := ⟨.hbm, 98, rfl⟩
abbrev main_v56 : Ref sig .tc := ⟨.hbm, 99, rfl⟩
abbrev main_v57 : Ref sig .tc := ⟨.hbm, 100, rfl⟩
abbrev main_cst_10 : Ref sig .tc := ⟨.hbm, 101, rfl⟩
abbrev main_v58 : Ref sig .tc := ⟨.hbm, 102, rfl⟩
abbrev main_cst_11 : Ref sig .tc := ⟨.hbm, 103, rfl⟩
abbrev main_v59 : Ref sig .tc := ⟨.hbm, 104, rfl⟩
abbrev main_v60 : Ref sig .tc := ⟨.hbm, 105, rfl⟩
abbrev main_v61 : Ref sig .tc := ⟨.hbm, 106, rfl⟩
abbrev main_v62 : Ref sig .tc := ⟨.hbm, 107, rfl⟩
abbrev main_v63 : Ref sig .tc := ⟨.hbm, 108, rfl⟩
abbrev main_v64 : Ref sig .tc := ⟨.hbm, 109, rfl⟩

abbrev nD : Nat := 1
abbrev τ : Topo := Topo.v7x

variable {F : FTy → Type} [FloatOps F]
-- ==== Proof.RefRun.lean ====
/-
  The RUN of the reference: host operations only. Its result arrays are named stage by stage (`xp`, `e`, `cn`, `d2`,
  `codes`, `q`, `loss`, `qp`, `quant`), each the printed operations of that stage over the stages before it, so that
  the other modules read one stage at an index at a time.
-/
module

public import proofs.«01_k».proof.Defs
public import proofs.«01_k».proof.Proof.Gen.ReferenceIdeal
public import Idealize.ShloMosaic.Lib.Claim

@[expose] public section

set_option maxRecDepth 16384

noncomputable section

open Idealize.ShloMosaic Idealize.SL.Sem

namespace Cert.ReferenceIdeal.Ref

open Cert.ReferenceIdeal Cert.ReferenceIdeal.Gen

/-- The weight-normalised weight of the first projection, `g · v / ‖v‖` row by row. -/
def wIn (v : FVec Ideal S64x1024x1 .f32) (g : FVec Ideal S64x1x1 .f32) : FVec Ideal S64x1024x1 .f32 :=
  Host.divf (mulf (broadcastInDim S64x1024x1 ![0, 1, 2] bcast_S64x1x1_S64x1024x1_0_1_2 g) v)
    (broadcastInDim S64x1024x1 ![0, 1, 2] bcast_S64x1x1_S64x1024x1_0_1_2
      (Host.sqrt (broadcastInDim S64x1x1 ![0] bcast_S64_S64x1x1_0
        (Host.reduceAdd (mulf v v) (constant (F := Ideal) S_ .f32 0x00000000#32) reducesTo_S64x1024x1_S64_d1_2 h_S_))))

/-- The weight-normalised weight of the second projection. -/
def wOut (v : FVec Ideal S1024x64x1 .f32) (g : FVec Ideal S1024x1x1 .f32) : FVec Ideal S1024x64x1 .f32 :=
  Host.divf (mulf (broadcastInDim S1024x64x1 ![0, 1, 2] bcast_S1024x1x1_S1024x64x1_0_1_2 g) v)
    (broadcastInDim S1024x64x1 ![0, 1, 2] bcast_S1024x1x1_S1024x64x1_0_1_2
      (Host.sqrt (broadcastInDim S1024x1x1 ![0] bcast_S1024_S1024x1x1_0
        (Host.reduceAdd (mulf v v) (constant (F := Ideal) S_ .f32 0x00000000#32) reducesTo_S1024x64x1_S1024_d1_2 h_S_))))

/-- The projected input, `x_proj`. -/
def xp (x : FVec Ideal S8x1024x2048 .f32) (w : FVec Ideal S64x1024x1 .f32) : FVec Ideal S8x64x2048 .f32 :=
  transpose S8x64x2048 [0, 2, 1]
    (Host.dotGeneral dot_S8x1024x2048_S64x1024_S8x2048x64_1_1_02_0_n_n none x
      (shapeCast S64x1024 w shapeCasts_S64x1024x1_S64x1024)) transposes_S8x2048x64_S8x64x2048_0_2_1

/-- The projected input normalised along its channels, tokens before channels. -/
def e (p : FVec Ideal S8x64x2048 .f32) : FVec Ideal S8x2048x64 .f32 :=
  transpose S8x2048x64 [0, 2, 1]
    (Host.divf p (broadcastInDim S8x64x2048 ![0, 1, 2] bcast_S8x1x2048_S8x64x2048_0_1_2
      (maximumf
        (Host.sqrt (broadcastInDim S8x1x2048 ![0, 2] bcast_S8x2048_S8x1x2048_0_2
          (Host.reduceAdd (mulf p p) (constant (F := Ideal) S_ .f32 0x00000000#32) reducesTo_S8x64x2048_S8x2048_d1 h_S_)))
        (broadcastInDim S8x1x2048 ![] bcast_S_S8x1x2048 (constant (F := Ideal) S_ .f32 0x2B8CBCCC#32)))))
    transposes_S8x64x2048_S8x2048x64_0_2_1

/-- The codebook normalised row by row. -/
def cn (cb : FVec Ideal S1024x64 .f32) : FVec Ideal S1024x64 .f32 :=
  Host.divf cb (broadcastInDim S1024x64 ![0, 1] bcast_S1024x1_S1024x64_0_1
    (maximumf
      (Host.sqrt (broadcastInDim S1024x1 ![0] bcast_S1024_S1024x1_0
        (Host.reduceAdd (mulf cb cb) (constant (F := Ideal) S_ .f32 0x00000000#32) reducesTo_S1024x64_S1024_d1 h_S_)))
      (broadcastInDim S1024x1 ![] bcast_S_S1024x1 (constant (F := Ideal) S_ .f32 0x2B8CBCCC#32))))

/-- The squared distances of every token to every code. -/
def d2 (en : FVec Ideal S8x2048x64 .f32) (c : FVec Ideal S1024x64 .f32) : FVec Ideal S8x2048x1024 .f32 :=
  subf
    (addf
      (broadcastInDim S8x2048x1024 ![0, 1, 2] bcast_S8x2048x1_S8x2048x1024_0_1_2
        (broadcastInDim S8x2048x1 ![0, 1] bcast_S8x2048_S8x2048x1_0_1
          (Host.reduceAdd (mulf en en) (constant (F := Ideal) S_ .f32 0x00000000#32) reducesTo_S8x2048x64_S8x2048_d2 h_S_)))
      (broadcastInDim S8x2048x1024 ![0, 1, 2] bcast_S1x1x1024_S8x2048x1024_0_1_2
        (broadcastInDim S1x1x1024 ![2] bcast_S1024_S1x1x1024_2
          (Host.reduceAdd (mulf c c) (constant (F := Ideal) S_ .f32 0x00000000#32) reducesTo_S1024x64_S1024_d1 h_S_))))
    (mulf (broadcastInDim S8x2048x1024 ![] bcast_S_S8x2048x1024 (constant (F := Ideal) S_ .f32 0x40000000#32))
      (Host.dotGeneral dot_S8x2048x64_S1024x64_S8x2048x1024_2_1_01_0_n_n none en c))

/-- The codes: the least index of a nearest code. -/
def codes (d : FVec Ideal S8x2048x1024 .f32) : IVec S8x2048 32 := fun j =>
  (Host.argReduce (reducer_argmin_f32_i32 (F := Ideal)) d (iotaInDim S8x2048x1024 32 2) (constant (F := Ideal) S_ .f32 0x7F800000#32)
    (constantI S_ 32 0#32) reducesTo_S8x2048x1024_S8x2048_d2 h_S_ j).2

/-- The codes with a negative one counted from the end, with a trailing unit axis. -/
def wrapped (k : IVec S8x2048 32) : IVec S8x2048x1 32 :=
  broadcastInDim S8x2048x1 ![0, 1] bcast_S8x2048_S8x2048x1_0_1
    (select (cmpi .slt k (broadcastInDim S8x2048 ![] bcast_S_S8x2048 (constantI S_ 32 0#32)))
      (addi k (broadcastInDim S8x2048 ![] bcast_S_S8x2048 (constantI S_ 32 1024#32))) k)

/-- Which codes name a row of the codebook. -/
def inRange (w : IVec S8x2048x1 32) : IVec S8x2048 1 :=
  Host.reduce IntOp.andi
    (andi (cmpi .sge w (broadcastInDim S8x2048x1 ![] bcast_S_S8x2048x1 (constantI S_ 32 0#32)))
      (cmpi .sle w (broadcastInDim S8x2048x1 ![0, 1, 2] bcast_S1x1x1_S8x2048x1_0_1_2
        (broadcastInDim S1x1x1 ![2] bcast_S1_S1x1x1_2 (constantI S1 32 1023#32)))))
    (constantI S_ 1 1#1) reducesTo_S8x2048x1_S8x2048_d2 h_S_

/-- The codebook's rows at the codes. -/
def taken (cb : FVec Ideal S1024x64 .f32) (k : IVec S8x2048 32) : FVec Ideal S8x2048x64 .f32 :=
  select (broadcastInDim S8x2048x64 ![0, 1] bcast_S8x2048_S8x2048x64_0_1 (inRange (wrapped k)))
    (Host.gather gather_S1024x64_S8x2048x1_S8x2048x64_2_0_n_n_0_2_164 cb (wrapped k))
    (broadcastInDim S8x2048x64 ![] bcast_S_S8x2048x64 (constant (F := Ideal) S_ .f32 0x7FC00000#32))

/-- The codebook's rows at the codes, channels before tokens. -/
def q (cb : FVec Ideal S1024x64 .f32) (k : IVec S8x2048 32) : FVec Ideal S8x64x2048 .f32 :=
  transpose S8x64x2048 [0, 2, 1] (taken cb k) transposes_S8x2048x64_S8x64x2048_0_2_1

/-- The mean squared difference of the projected input and the quantised one: both losses. -/
def loss (p u : FVec Ideal S8x64x2048 .f32) : FVec Ideal S_ .f32 :=
  Host.divf
    (Host.reduceAdd (mulf (subf p u) (subf p u)) (constant (F := Ideal) S_ .f32 0x00000000#32) reducesTo_S8x64x2048_S_d0_1_2 h_S_)
    (constant (F := Ideal) S_ .f32 0x49800000#32)

/-- The straight-through estimate: the quantised projection. -/
def qp (p u : FVec Ideal S8x64x2048 .f32) : FVec Ideal S8x64x2048 .f32 := addf p (subf u p)

/-- The second projection of the quantised projection. -/
def quant (u : FVec Ideal S8x64x2048 .f32) (w : FVec Ideal S1024x64x1 .f32) : FVec Ideal S8x1024x2048 .f32 :=
  transpose S8x1024x2048 [0, 2, 1]
    (Host.dotGeneral dot_S8x64x2048_S1024x64_S8x2048x1024_1_1_02_0_n_n none u
      (shapeCast S1024x64 w shapeCasts_S1024x64x1_S1024x64)) transposes_S8x2048x1024_S8x1024x2048_0_2_1

variable (m : (ℓ : Loc nD τ sig) → Buf (Elt Ideal) ℓ)

/-- The reference's argument arrays on core `c`, at their shapes. -/
def X (c : Dev nD) : FVec Ideal S8x1024x2048 .f32 := m ((c.tc : Thread nD τ).loc main_arg0)
def CB (c : Dev nD) : FVec Ideal S1024x64 .f32 := m ((c.tc : Thread nD τ).loc main_arg1)
def VI (c : Dev nD) : FVec Ideal S64x1024x1 .f32 := m ((c.tc : Thread nD τ).loc main_arg2)
def GI (c : Dev nD) : FVec Ideal S64x1x1 .f32 := m ((c.tc : Thread nD τ).loc main_arg3)
def VO (c : Dev nD) : FVec Ideal S1024x64x1 .f32 := m ((c.tc : Thread nD τ).loc main_arg4)
def GO (c : Dev nD) : FVec Ideal S1024x1x1 .f32 := m ((c.tc : Thread nD τ).loc main_arg5)

/-- The projected input over the arguments. -/
def XP (x : FVec Ideal S8x1024x2048 .f32) (vi : FVec Ideal S64x1024x1 .f32) (gi : FVec Ideal S64x1x1 .f32) :
    FVec Ideal S8x64x2048 .f32 := xp x (wIn vi gi)
/-- The codes over the arguments. -/
def CODES (x : FVec Ideal S8x1024x2048 .f32) (cb : FVec Ideal S1024x64 .f32) (vi : FVec Ideal S64x1024x1 .f32)
    (gi : FVec Ideal S64x1x1 .f32) : IVec S8x2048 32 := codes (d2 (e (XP x vi gi)) (cn cb))
/-- The codebook's rows over the arguments. -/
def Q (x : FVec Ideal S8x1024x2048 .f32) (cb : FVec Ideal S1024x64 .f32) (vi : FVec Ideal S64x1024x1 .f32)
    (gi : FVec Ideal S64x1x1 .f32) : FVec Ideal S8x64x2048 .f32 := q cb (CODES x cb vi gi)

set_option maxHeartbeats 1600000 in
/-- The reference runs from any memory, each result array ends at its stage over the arguments, and the arguments end
    unchanged. -/
theorem run (g : Dev nD → PrngReg) :
    θ_run (defs (F := Ideal)) (onTc (τ := τ) (main (F := Ideal))) ⟨m, fun _ => 0, g⟩ (fun r => ∀ c : Dev nD,
      r.2.mem ((c.tc : Thread nD τ).loc main_v49) = CODES (X m c) (CB m c) (VI m c) (GI m c)
      ∧ r.2.mem ((c.tc : Thread nD τ).loc main_v64)
          = quant (qp (XP (X m c) (VI m c) (GI m c)) (Q (X m c) (CB m c) (VI m c) (GI m c))) (wOut (VO m c) (GO m c))
      ∧ r.2.mem ((c.tc : Thread nD τ).loc main_v55) = loss (XP (X m c) (VI m c) (GI m c)) (Q (X m c) (CB m c) (VI m c) (GI m c))
      ∧ r.2.mem ((c.tc : Thread nD τ).loc main_v59) = loss (XP (X m c) (VI m c) (GI m c)) (Q (X m c) (CB m c) (VI m c) (GI m c))
      ∧ r.2.mem ((c.tc : Thread nD τ).loc main_v18) = XP (X m c) (VI m c) (GI m c)
      ∧ r.2.mem ((c.tc : Thread nD τ).loc main_v61)
          = qp (XP (X m c) (VI m c) (GI m c)) (Q (X m c) (CB m c) (VI m c) (GI m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) := by
  hlo_run
  all_goals try simp -implicitDefEqProofs only [StableHlo.TRef.toBuf, StableHlo.TRef.ofBuf, cast_cast, cast_eq]
  · unfold CODES codes d2 e cn XP xp wIn; rfl
  · unfold quant wOut qp Q CODES codes d2 e cn XP xp wIn q taken inRange wrapped; rfl
  · unfold loss Q CODES codes d2 e cn XP xp wIn q taken inRange wrapped; rfl
  · unfold loss Q CODES codes d2 e cn XP xp wIn q taken inRange wrapped; rfl
  · unfold XP xp wIn; rfl
  · unfold qp Q CODES codes d2 e cn XP xp wIn q taken inRange wrapped; rfl

/-- The reference's frame: it runs and its arguments end unchanged; it declares no semaphore. -/
theorem frame : Cert.quiescent_ReferenceIdeal := fun m g _ =>
  (θ_run Cert.ReferenceIdeal.defs _ _).mono
    (fun r h => ⟨fun c => (h c).2.2.2.2.2.2, Idealize.ShloMosaic.sem_eq_zero_of_no_sems (by decide) r.2⟩) (run m g)

end Cert.ReferenceIdeal.Ref

end
-- ==== Proof.Points.lean ====
/-
  What the kernel leaves at one grid point, as its named payloads over the arrays: the first point prepares the five
  scratch arrays (the two weight-normalised weights, the codebook transposed, the normalised codebook transposed and
  scaled by -2, the squared norms of its rows), every later point finds them unchanged, and every point stores its five
  result blocks from them and its block of the input.
-/
module

public import proofs.«01_k».proof.Proof.Gen.KernelIdeal.Frame
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.KernelIdeal.Points

open Cert.KernelIdeal Cert.KernelIdeal.Gen

variable (m : (ℓ : Loc nD τ sig) → Buf (Elt Ideal) ℓ) (c : Dev nD)

/-- The arguments on core `c`, at their shapes. -/
def X : FVec Ideal S8x1024x2048 .f32 := m ((c : Thread nD τ).loc main_arg0)
def CB : FVec Ideal S1024x64 .f32 := m ((c : Thread nD τ).loc main_arg1)
def VI : FVec Ideal S64x1024x1 .f32 := m ((c : Thread nD τ).loc main_arg2)
def GI : FVec Ideal S64x1x1 .f32 := m ((c : Thread nD τ).loc main_arg3)
def VO : FVec Ideal S1024x64x1 .f32 := m ((c : Thread nD τ).loc main_arg4)
def GO : FVec Ideal S1024x1x1 .f32 := m ((c : Thread nD τ).loc main_arg5)

/-- The index maps of the windows, at every point. -/
theorem idx : ∀ t : Fin cfg0.N, win0_0.index t = ![t.val / 2, 0, t.val % 2] ∧ win0_1.index t = ![0, 0] ∧ win0_2.index t = ![0, 0]
    ∧ win0_3.index t = ![0, 0] ∧ win0_4.index t = ![0, 0] ∧ win0_5.index t = ![0, 0] ∧ win0_6.index t = ![t.val, 0, 0]
    ∧ win0_7.index t = ![t.val / 2, 0, t.val % 2] ∧ win0_8.index t = ![t.val / 2, 0, t.val % 2]
    ∧ win0_9.index t = ![t.val / 2, 0, t.val % 2] ∧ win0_10.index t = ![t.val, 0, 0] :=
  (by decide +kernel : ∀ t : Fin grid0.N, _)

/-- The codebook's block is the codebook, at every point. -/
theorem iblk1 (t : Fin cfg0.N) : iblk m c 1 t = CB m c := by
  unfold CB; blk_ext! [iblk, V, idx t]

/-- The weights' blocks are the arguments without their unit axes, at every point. -/
theorem iblk2 (t : Fin cfg0.N) : iblk m c 2 t = shapeCast S64x1024 (VI m c) shapeCasts_S64x1024x1_S64x1024 := by
  unfold VI; blk_ext! [iblk, V, idx t]
theorem iblk3 (t : Fin cfg0.N) : iblk m c 3 t = shapeCast S64x1 (GI m c) shapeCasts_S64x1x1_S64x1 := by
  unfold GI; blk_ext! [iblk, V, idx t]
theorem iblk4 (t : Fin cfg0.N) : iblk m c 4 t = shapeCast S1024x64 (VO m c) shapeCasts_S1024x64x1_S1024x64 := by
  unfold VO; blk_ext! [iblk, V, idx t]
theorem iblk5 (t : Fin cfg0.N) : iblk m c 5 t = shapeCast S1024x1 (GO m c) shapeCasts_S1024x1x1_S1024x1 := by
  unfold GO; blk_ext! [iblk, V, idx t]

/-- The prepared scratch arrays. -/
def WI : FVec Ideal S64x1024 .f32 :=
  k0_pay7 (shapeCast S64x1024 (VI m c) shapeCasts_S64x1024x1_S64x1024) (shapeCast S64x1 (GI m c) shapeCasts_S64x1x1_S64x1)
def WO : FVec Ideal S1024x64 .f32 :=
  k0_pay8 (shapeCast S1024x64 (VO m c) shapeCasts_S1024x64x1_S1024x64) (shapeCast S1024x1 (GO m c) shapeCasts_S1024x1x1_S1024x1)
def CBT : FVec Ideal S64x1024 .f32 := k0_pay11 (k0_pay10 (CB m c))
def CN2 : FVec Ideal S64x1024 .f32 := k0_pay12 (k0_pay9 (CB m c))
def CSQ : FVec Ideal S1024x1 .f32 := k0_pay13 (k0_pay9 (CB m c))

/-- What the writing point leaves in the scratch arrays. -/
theorem scratch_write (t : Fin cfg0.N) (h : t.val % 16 = 0) :
    (outsAt0 m c t.val t.isLt).2.2.2.2.2 = (WI m c, WO m c, CBT m c, CN2 m c, CSQ m c) := by
  rw [outsAt0_A m c t h]
  simp only [iblk1, iblk2, iblk3, iblk4, iblk5]
  frame_out
  rfl

/-- What every point leaves in the scratch arrays: the prepared arrays. -/
theorem scratch (n : ℕ) (hn : n < cfg0.N) :
    (outsAt0 m c n hn).2.2.2.2.2 = (WI m c, WO m c, CBT m c, CN2 m c, CSQ m c) := by
  induction n with
  | zero => exact scratch_write m c ⟨0, hn⟩ (Nat.zero_mod _)
  | succ n ih =>
    by_cases h : (n + 1) % 16 = 0
    · exact scratch_write m c ⟨n + 1, hn⟩ h
    · rw [outsAt0_B m c ⟨n + 1, hn⟩ h]
      exact ih (Nat.lt_of_succ_lt hn)

/-- The position of each row of codes, and the mask of the codes at the least distance, for a point's block of the input. -/
def iota0 : IVec S1024x1024 32 := iota .tc S1024x1024 32 [0] iota_S1024x1024_d0_w32
def mask (t : Fin cfg0.N) : IVec S1024x1024 1 := k0_pay16 (WI m c) (iblk m c 0 t) (CN2 m c) (CSQ m c)

/-- The five blocks a point stores. -/
def codesB (t : Fin cfg0.N) : IVec S1x1x1024 32 := k0_pay2 iota0 (mask m c t)
def quantB (t : Fin cfg0.N) : FVec Ideal S1x1024x1024 .f32 := k0_pay6 iota0 (mask m c t) (CBT m c) (WO m c)
def xpB (t : Fin cfg0.N) : FVec Ideal S1x64x1024 .f32 := k0_pay15 (WI m c) (iblk m c 0 t)
def qpB (t : Fin cfg0.N) : FVec Ideal S1x64x1024 .f32 := k0_pay4 iota0 (mask m c t) (CBT m c)
def lossB (t : Fin cfg0.N) : FVec Ideal S1x1x1 .f32 :=
  k0_pay5 (k0_pay14 (WI m c) (iblk m c 0 t)) iota0 (mask m c t) (CBT m c)

/-- What every point leaves in the five result blocks. -/
theorem results (t : Fin cfg0.N) :
    (outsAt0 m c t.val t.isLt).1 = codesB m c t ∧ (outsAt0 m c t.val t.isLt).2.1 = quantB m c t
    ∧ (outsAt0 m c t.val t.isLt).2.2.1 = xpB m c t ∧ (outsAt0 m c t.val t.isLt).2.2.2.1 = qpB m c t
    ∧ (outsAt0 m c t.val t.isLt).2.2.2.2.1 = lossB m c t := by
  by_cases h : t.val % 16 = 0
  · rw [outsAt0_A m c t h]
    simp only [iblk1, iblk2, iblk3, iblk4, iblk5]
    frame_out
    exact ⟨rfl, rfl, rfl, rfl, rfl⟩
  · rw [outsAt0_B m c t h, scratch m c (t.val - 1)]
    frame_out
    simp only [read_unread_whole]
    exact ⟨rfl, rfl, rfl, rfl, rfl⟩

end Cert.KernelIdeal.Points

end
-- ==== Proof.Vq.lean ====
/-
  The mathematics of the quantiser over the extended reals, free of any program: a vector divided by its length bounded
  below is always real, so the two ways of writing a squared distance agree; the least index of a nearest code is unique,
  and both ways of searching for it find it; a sum that selects one row reads that row.
-/
module

public import Idealize.ShloMosaic.Lib.Pointwise

@[expose] public section

set_option maxRecDepth 16384

noncomputable section

open Idealize.ShloMosaic

namespace Vq

/-- The lower bound of a length, `1e-12` as printed. -/
def eps : EReal := Ideal.ofBits .f32 730643660#32

theorem eps_pos : 0 < eps := by
  simp [eps, Ideal.ofBits, Ideal.ieee]
  rw [← EReal.coe_mul]
  exact EReal.coe_pos.2 (by norm_num)

theorem ofBits_two : Ideal.ofBits .f32 1073741824#32 = ((2 : ℝ) : EReal) := by
  simp [Ideal.ofBits, Ideal.ieee]
  rw [← EReal.coe_mul]
  exact congrArg _ (by norm_num)
theorem ofBits_neg_two : Ideal.ofBits .f32 3221225472#32 = ((-2 : ℝ) : EReal) := by
  simp [Ideal.ofBits, Ideal.ieee]
  rw [← EReal.coe_mul]
  exact congrArg _ (by norm_num)
theorem ofBits_top : Ideal.ofBits .f32 2139095040#32 = ⊤ := by
  simp [Ideal.ofBits, Ideal.ieee]

/-- A vector over its length, the length bounded below by `eps`. -/
def nz {n : ℕ} (u : Fin n → EReal) (k : Fin n) : EReal := Ideal.div (u k) (max (Ideal.sqrt (∑ x, u x * u x)) eps)

theorem mul_self_nonneg' (a : EReal) : 0 ≤ a * a := by
  rcases le_total 0 a with h | h
  · exact mul_nonneg h h
  · exact EReal.mul_nonneg_iff.2 (Or.inr ⟨h, h⟩)

/-- The square root is the top element only there. -/
theorem sqrt_ne_top {a : EReal} (h : a ≠ ⊤) : Ideal.sqrt a ≠ ⊤ := by
  induction a using EReal.rec with
  | bot => simp
  | top => exact absurd rfl h
  | coe r => rw [Ideal.sqrt_coe]; split <;> simp

/-- A component of a normalised vector is real. -/
theorem nz_real {n : ℕ} (u : Fin n → EReal) (k : Fin n) : ∃ r : ℝ, nz u k = (r : EReal) := by
  unfold nz
  set S := ∑ x, u x * u x with hS
  have hpos : 0 < max (Ideal.sqrt S) eps := lt_max_of_lt_right eps_pos
  have hu : S ≠ ⊤ → u k ≠ ⊤ ∧ u k ≠ ⊥ := fun hT => by
    have hle : u k * u k ≤ S := Finset.single_le_sum (f := fun x => u x * u x) (fun x _ => mul_self_nonneg' (u x)) (Finset.mem_univ k)
    constructor <;> intro hk <;> rw [hk] at hle <;> exact hT (top_le_iff.1 (by simpa using hle))
  generalize hD : max (Ideal.sqrt S) eps = D at hpos
  rw [Ideal.div, if_neg hpos.ne']
  induction D using EReal.rec with
  | bot => exact absurd hpos (by simp)
  | top => exact ⟨0, by simp⟩
  | coe r =>
    have hT : S ≠ ⊤ := fun h => by
      have := le_max_left (Ideal.sqrt S) eps
      rw [hD, h] at this; simp at this
    obtain ⟨h1, h2⟩ := hu hT
    refine ⟨(u k).toReal * r⁻¹, ?_⟩
    rw [EReal.coe_mul, EReal.coe_toReal h1 h2, EReal.coe_inv]

/-- The coercion of a finite sum of reals. -/
theorem coe_sum {n : ℕ} (f : Fin n → ℝ) : ∑ k, ((f k : ℝ) : EReal) = ((∑ k, f k : ℝ) : EReal) := by
  induction n with
  | zero => simp
  | succ n ih => rw [Fin.sum_univ_castSucc, Fin.sum_univ_castSucc, ih, EReal.coe_add]

/-- The squared distance of two normalised vectors with the factor `-2` inside the inner product is the one with `2`
    outside it. -/
theorem dist_eq {n : ℕ} (u c : Fin n → EReal) :
    (∑ k, nz u k * nz u k + ∑ k, nz c k * nz c k) + ∑ k, (nz c k * ((-2 : ℝ) : EReal)) * nz u k
      = (∑ k, nz u k * nz u k + ∑ k, nz c k * nz c k) - ((2 : ℝ) : EReal) * ∑ k, nz u k * nz c k := by
  choose f hf using nz_real u
  choose g hg using nz_real c
  simp only [hf, hg, ← EReal.coe_mul, coe_sum, ← EReal.coe_add, ← EReal.coe_sub]
  congr 1
  rw [sub_eq_add_neg, ← neg_mul, Finset.mul_sum]
  congr 1
  exact Finset.sum_congr rfl fun k _ => by ring

/-- The word `w` is the least index at which `d` is least. -/
def IsCode {N : ℕ} (d : Fin N → EReal) (w : BitVec 32) : Prop :=
  ∃ i : Fin N, w = BitVec.ofNat 32 i.val ∧ (∀ j, d i ≤ d j) ∧ ∀ j, d j ≤ d i → i ≤ j

/-- That index is unique. -/
theorem IsCode.unique {N : ℕ} {d : Fin N → EReal} {w w' : BitVec 32} (h : IsCode d w) (h' : IsCode d w') : w = w' := by
  obtain ⟨i, rfl, hi, li⟩ := h
  obtain ⟨j, rfl, hj, lj⟩ := h'
  rw [le_antisymm (li j (hj i)) (lj i (hi j))]

/-- A fold of the signed minimum is one of the folded words or the initial one, and is at most each of them. -/
theorem fold_minsi {N : ℕ} (b : BitVec 32) (f : Fin N → BitVec 32) (s : Finset (Fin N)) :
    (s.fold IntOp.minsi b f = b ∨ ∃ x ∈ s, s.fold IntOp.minsi b f = f x)
      ∧ (s.fold IntOp.minsi b f).toInt ≤ b.toInt ∧ ∀ x ∈ s, (s.fold IntOp.minsi b f).toInt ≤ (f x).toInt := by
  induction s using Finset.induction_on with
  | empty => simp
  | insert a s ha ih =>
    rw [Finset.fold_insert ha]
    obtain ⟨h1, h2, h3⟩ := ih
    generalize s.fold IntOp.minsi b f = r at h1 h2 h3
    unfold IntOp.minsi
    by_cases h : (f a).slt r = true
    · rw [if_pos h]
      have h' : (f a).toInt < r.toInt := by simpa [BitVec.slt] using h
      refine ⟨Or.inr ⟨a, Finset.mem_insert_self _ _, rfl⟩, by omega, fun x hx => ?_⟩
      rcases Finset.mem_insert.1 hx with rfl | hx
      · exact le_rfl
      · have := h3 x hx; omega
    · rw [if_neg h]
      have h' : r.toInt ≤ (f a).toInt := by simpa [BitVec.slt] using h
      refine ⟨h1.imp_right fun ⟨x, hx, e⟩ => ⟨x, Finset.mem_insert_of_mem hx, e⟩, h2, fun x hx => ?_⟩
      rcases Finset.mem_insert.1 hx with rfl | hx
      · exact h'
      · exact h3 x hx

theorem toInt_ofNat {n : ℕ} (h : n ≤ 1024) : (BitVec.ofNat 32 n).toInt = n := by
  rw [BitVec.toInt_ofNat', Int.bmod_eq_of_le] <;> omega

/-- The least of the indices at which `d` is its minimum, `1024` standing for the others, is the code. -/
theorem isCode_fold (d : Fin 1024 → EReal) :
    IsCode d (Finset.univ.fold IntOp.minsi 2147483647#32 fun x =>
      Scalar.select (BitVec.ofBool (decide (d x = Finset.univ.fold min ⊤ d))) (BitVec.ofNat 32 x.val) 1024#32) := by
  set M := Finset.univ.fold min ⊤ d with hM
  have hle : ∀ x, M ≤ d x := fun x => (Finset.fold_min_le _).2 (Or.inr ⟨x, Finset.mem_univ x, le_rfl⟩)
  have hex : ∃ x, d x = M := by
    rcases (Finset.fold_min_le (b := ⊤) (f := d) (s := Finset.univ) M).1 hM.symm.le with h | ⟨x, -, h⟩
    · exact ⟨0, le_antisymm (le_trans le_top h) (hle 0)⟩
    · exact ⟨x, le_antisymm h (hle x)⟩
  set f : Fin 1024 → BitVec 32 := fun x => Scalar.select (BitVec.ofBool (decide (d x = M))) (BitVec.ofNat 32 x.val) 1024#32 with hf
  have f1 : ∀ x, d x = M → f x = BitVec.ofNat 32 x.val := fun x h => by simp [hf, h, Scalar.select]
  have f2 : ∀ x, d x ≠ M → f x = 1024#32 := fun x h => by simp [hf, h, Scalar.select]
  obtain ⟨h1, -, h3⟩ := fold_minsi 2147483647#32 f Finset.univ
  generalize Finset.univ.fold IntOp.minsi 2147483647#32 f = r at h1 h3
  obtain ⟨x0, hx0⟩ := hex
  have hr := h3 x0 (Finset.mem_univ _)
  rw [f1 x0 hx0, toInt_ofNat (by omega)] at hr
  have hx0' := x0.isLt
  rcases h1 with h | ⟨i, -, h⟩
  · rw [h, show (2147483647#32 : BitVec 32).toInt = 2147483647 from by decide] at hr; omega
  · by_cases hi : d i = M
    · refine ⟨i, h.trans (f1 i hi), fun j => hi.symm ▸ hle j, fun j hj => ?_⟩
      have hj' : d j = M := le_antisymm (hj.trans hi.le) (hle j)
      have := h3 j (Finset.mem_univ _)
      rw [h, f1 i hi, f1 j hj', toInt_ofNat (by omega), toInt_ofNat (by omega)] at this
      exact Fin.le_def.2 (by omega)
    · rw [h, f2 i hi, show (1024#32 : BitVec 32).toInt = 1024 from by decide] at hr; omega

/-- A fold of `f` over a list of pairs, `f` keeping the pair that comes first by value and then by index, ends at a pair
    of the list or the initial one, and before each of them. -/
theorem foldl_first (f : EReal × BitVec 32 → EReal × BitVec 32 → EReal × BitVec 32)
    (hf : ∀ a b, f a b = if a.1 < b.1 ∨ (a.1 = b.1 ∧ a.2.toInt < b.2.toInt) then a else b)
    (L : List (EReal × BitVec 32)) (p : EReal × BitVec 32) :
    (L.foldl f p = p ∨ L.foldl f p ∈ L)
      ∧ ∀ b, b = p ∨ b ∈ L → (L.foldl f p).1 < b.1 ∨ ((L.foldl f p).1 = b.1 ∧ (L.foldl f p).2.toInt ≤ b.2.toInt) := by
  induction L generalizing p with
  | nil => refine ⟨Or.inl rfl, fun b hb => ?_⟩; simp at hb; subst hb; exact Or.inr ⟨rfl, le_rfl⟩
  | cons a L ih =>
    rw [List.foldl_cons]
    obtain ⟨h1, h2⟩ := ih (f p a)
    generalize L.foldl f (f p a) = r at h1 h2
    have hc := h2 _ (Or.inl rfl)
    rw [hf] at hc h1
    by_cases h : p.1 < a.1 ∨ (p.1 = a.1 ∧ p.2.toInt < a.2.toInt)
    · rw [if_pos h] at hc h1
      refine ⟨h1.imp_right fun e => List.mem_cons_of_mem _ e, fun b hb => ?_⟩
      rcases hb with rfl | hb
      · exact hc
      · rcases List.mem_cons.1 hb with rfl | hb
        · rcases hc with hc | ⟨e, hc⟩ <;> rcases h with h | ⟨e', h⟩
          · exact Or.inl (hc.trans h)
          · exact Or.inl (e' ▸ hc)
          · exact Or.inl (e ▸ h)
          · exact Or.inr ⟨e.trans e', by omega⟩
        · exact h2 b (Or.inr hb)
    · rw [if_neg h] at hc h1
      refine ⟨Or.inr (h1.elim (fun e => e ▸ List.mem_cons_self ..) (List.mem_cons_of_mem _)), fun b hb => ?_⟩
      rcases hb with rfl | hb
      · push Not at h
        rcases hc with hc | ⟨e, hc⟩
        · exact Or.inl (lt_of_lt_of_le hc h.1)
        · rcases lt_or_eq_of_le h.1 with h' | h'
          · exact Or.inl (e ▸ h')
          · exact Or.inr ⟨e.trans h', hc.trans (h.2 h'.symm)⟩
      · rcases List.mem_cons.1 hb with rfl | hb
        · exact hc
        · exact h2 b (Or.inr hb)

/-- Such a fold from the top element at index `0`, over a list of the pairs of `d`'s values and indices in any order,
    ends at the code. -/
theorem isCode_foldl (f : EReal × BitVec 32 → EReal × BitVec 32 → EReal × BitVec 32)
    (hf : ∀ a b, f a b = if a.1 < b.1 ∨ (a.1 = b.1 ∧ a.2.toInt < b.2.toInt) then a else b)
    (d : Fin 1024 → EReal) (L : List (EReal × BitVec 32)) (hL : ∀ p, p ∈ L ↔ ∃ k : Fin 1024, p = (d k, BitVec.ofNat 32 k.val)) :
    IsCode d (L.foldl f (⊤, 0#32)).2 := by
  obtain ⟨h1, h2⟩ := foldl_first f hf L (⊤, 0#32)
  generalize L.foldl f (⊤, 0#32) = r at h1 h2
  have hall : ∀ k : Fin 1024, r.1 < d k ∨ (r.1 = d k ∧ r.2.toInt ≤ k.val) := fun k => by
    have := h2 (d k, BitVec.ofNat 32 k.val) (Or.inr ((hL _).2 ⟨k, rfl⟩))
    rwa [toInt_ofNat (by omega)] at this
  have key : ∃ i : Fin 1024, r = (d i, BitVec.ofNat 32 i.val) := by
    rcases h1 with h | h
    · refine ⟨0, ?_⟩
      rcases hall 0 with h' | ⟨h', -⟩
      · rw [h] at h'; exact absurd h' (by simp)
      · rw [← h', h]; rfl
    · exact (hL _).1 h
  obtain ⟨i, rfl⟩ := key
  refine ⟨i, rfl, fun j => (hall j).elim le_of_lt fun h => h.1.le, fun j hj => ?_⟩
  rcases hall j with h | ⟨-, h⟩
  · exact absurd h (not_lt.2 hj)
  · rw [toInt_ofNat (by omega)] at h; exact Fin.le_def.2 (by omega)

/-- A sum over all rows that keeps the entry of the row the code names, and zero for the others, is that entry. -/
theorem sum_onehot (i : Fin 1024) (v : Fin 1024 → EReal) :
    ∑ x : Fin 1024, Scalar.select (IntOp.cmpi .eq (BitVec.ofNat 32 x.val) (BitVec.ofNat 32 i.val)) (v x) 0 = v i := by
  rw [Finset.sum_eq_single i]
  · simp [Scalar.select, IntOp.cmpi]
  · intro x _ hx
    have : BitVec.ofNat 32 x.val ≠ BitVec.ofNat 32 i.val := fun h => hx (Fin.ext (by
      have := congrArg BitVec.toInt h
      rw [toInt_ofNat (by omega), toInt_ofNat (by omega)] at this; omega))
    simp [Scalar.select, IntOp.cmpi, beq_eq_false_iff_ne.2 this]
  · simp

end Vq

end
-- ==== Proof.Spec.lean ====
/-
  What the quantiser computes, over coordinates: the weight-normalised weight, the squared distance of a token's
  normalised projection to a normalised codebook row, and the least index of a nearest row.
-/
module

public import proofs.«01_k».proof.Proof.Vq

@[expose] public section

set_option maxRecDepth 16384

noncomputable section

open Idealize.ShloMosaic

namespace Vq

/-- The weight-normalised weight `g · v / ‖v‖`, row by row. -/
def wn {R C : ℕ} (v : Fin R → Fin C → EReal) (g : Fin R → EReal) (k : Fin R) (l : Fin C) : EReal :=
  Ideal.div (g k * v k l) (Ideal.sqrt (∑ x, v k x * v k x))

/-- The squared distance of the normalised column `u` to the normalised row `j` of the codebook. -/
def dist (u : Fin 64 → EReal) (cb : Fin 1024 → Fin 64 → EReal) (j : Fin 1024) : EReal :=
  (∑ k, nz u k * nz u k + ∑ k, nz (cb j) k * nz (cb j) k) - ((2 : ℝ) : EReal) * ∑ k, nz u k * nz (cb j) k

/-- Some word is the least index at which `d` is least. -/
theorem exists_best (d : Fin 1024 → EReal) : ∃ i : Fin 1024, IsCode d (BitVec.ofNat 32 i.val) := by
  obtain ⟨i, h, hi⟩ := isCode_fold d
  exact ⟨i, i, rfl, hi⟩

/-- The least index at which `d` is least. -/
def best (d : Fin 1024 → EReal) : Fin 1024 := (exists_best d).choose

theorem IsCode.eq_best {d : Fin 1024 → EReal} {w : BitVec 32} (h : IsCode d w) : w = BitVec.ofNat 32 (best d).val :=
  h.unique (exists_best d).choose_spec

/-- The code of a column: the least index of a nearest row. -/
def code (u : Fin 64 → EReal) (cb : Fin 1024 → Fin 64 → EReal) : Fin 1024 := best (dist u cb)

end Vq

end
-- ==== Proof.KerAt.lean ====
/-
  The kernel's payloads read at an index, over coordinates: the prepared weights and codebook, and what a grid point
  computes of its block of the input, token by token.
-/
module

public import proofs.«01_k».proof.Proof.Gen.KernelIdeal.Skeleton
public import proofs.«01_k».proof.Proof.Spec

@[expose] public section

set_option maxRecDepth 16384

noncomputable section

open Idealize.ShloMosaic Idealize.ShloMosaic.TcCoe Idealize.SL.Sem

namespace Cert.KernelIdeal.At

open Cert.KernelIdeal Cert.KernelIdeal.Gen

/-- The first weight, prepared, at an index. -/
theorem wi_at (v : FVec Ideal S64x1024x1 .f32) (g : FVec Ideal S64x1x1 .f32) (k : Fin 64) (l : Fin 1024) :
    k0_pay7 (F := Ideal) (shapeCast S64x1024 v shapeCasts_S64x1024x1_S64x1024) (shapeCast S64x1 g shapeCasts_S64x1x1_S64x1) (ix2 k l)
      = Vq.wn (fun a b => v (ix3 a b 0)) (fun a => g (ix3 a 0 0)) k l := by
  pointwise [k0_pay7, Vq.wn]

/-- The second weight, prepared, at an index. -/
theorem wo_at (v : FVec Ideal S1024x64x1 .f32) (g : FVec Ideal S1024x1x1 .f32) (k : Fin 1024) (l : Fin 64) :
    k0_pay8 (F := Ideal) (shapeCast S1024x64 v shapeCasts_S1024x64x1_S1024x64) (shapeCast S1024x1 g shapeCasts_S1024x1x1_S1024x1) (ix2 k l)
      = Vq.wn (fun a b => v (ix3 a b 0)) (fun a => g (ix3 a 0 0)) k l := by
  pointwise [k0_pay8, Vq.wn]

/-- The normalised codebook at an index. -/
theorem cn_at (cb : FVec Ideal S1024x64 .f32) (j : Fin 1024) (k : Fin 64) :
    k0_pay9 (F := Ideal) cb (ix2 j k) = Vq.nz (fun a => cb (ix2 j a)) k := by
  pointwise [k0_pay9, Vq.nz, Vq.eps]

/-- The transposed codebook at an index. -/
theorem cbt_at (cb : FVec Ideal S1024x64 .f32) (j : Fin 1024) (k : Fin 64) :
    k0_pay11 (F := Ideal) (k0_pay10 (F := Ideal) cb) (ix2 k j) = cb (ix2 j k) := by
  pointwise [k0_pay11, k0_pay10]

/-- The normalised codebook, transposed and scaled by `-2`, at an index. -/
theorem cn2_at (cb : FVec Ideal S1024x64 .f32) (j : Fin 1024) (k : Fin 64) :
    k0_pay12 (F := Ideal) (k0_pay9 (F := Ideal) cb) (ix2 k j) = Vq.nz (fun a => cb (ix2 j a)) k * ((-2 : ℝ) : EReal) := by
  pointwise [k0_pay12]
  rw [cn_at, Vq.ofBits_neg_two]

/-- The squared lengths of the normalised codebook rows, at an index. -/
theorem csq_at (cb : FVec Ideal S1024x64 .f32) (j : Fin 1024) :
    k0_pay13 (F := Ideal) (k0_pay9 (F := Ideal) cb) (ix2 j 0) = ∑ k, Vq.nz (fun a => cb (ix2 j a)) k * Vq.nz (fun a => cb (ix2 j a)) k := by
  pointwise [k0_pay13]
  simp only [cn_at]

/-- The projection of a block at an index. -/
theorem p14_at (w : FVec Ideal S64x1024 .f32) (x : FVec Ideal S1x1024x1024 .f32) (k : Fin 64) (t : Fin 1024) :
    k0_pay14 (F := Ideal) w x (ix2 k t) = ∑ c : Fin 1024, w (ix2 k c) * x (ix3 0 c t) := by
  pointwise [k0_pay14]

/-- The mask of a block: one exactly where the distance of the token to the code is the least of the token's distances. -/
theorem mask_at (w : FVec Ideal S64x1024 .f32) (x : FVec Ideal S1x1024x1024 .f32) (cb : FVec Ideal S1024x64 .f32) (j t : Fin 1024) :
    k0_pay16 (F := Ideal) w x (k0_pay12 (F := Ideal) (k0_pay9 (F := Ideal) cb)) (k0_pay13 (F := Ideal) (k0_pay9 (F := Ideal) cb)) (ix2 j t)
      = BitVec.ofBool (decide (Vq.dist (fun k => k0_pay14 (F := Ideal) w x (ix2 k t)) (fun j k => cb (ix2 j k)) j
          = Finset.univ.fold min ⊤ (Vq.dist (fun k => k0_pay14 (F := Ideal) w x (ix2 k t)) (fun j k => cb (ix2 j k))))) := by
  have hd : ∀ j : Fin 1024, Vq.dist (fun k => k0_pay14 (F := Ideal) w x (ix2 k t)) (fun j k => cb (ix2 j k)) j
      = (∑ k, Vq.nz (fun k => k0_pay14 (F := Ideal) w x (ix2 k t)) k * Vq.nz (fun k => k0_pay14 (F := Ideal) w x (ix2 k t)) k
          + k0_pay13 (F := Ideal) (k0_pay9 (F := Ideal) cb) (ix2 j 0))
        + ∑ k, k0_pay12 (F := Ideal) (k0_pay9 (F := Ideal) cb) (ix2 k j) * Vq.nz (fun k => k0_pay14 (F := Ideal) w x (ix2 k t)) k := fun j => by
    simp only [cn2_at, csq_at]
    exact (Vq.dist_eq _ _).symm
  rw [show Vq.dist (fun k => k0_pay14 (F := Ideal) w x (ix2 k t)) (fun j k => cb (ix2 j k)) = _ from funext hd]
  generalize k0_pay13 (F := Ideal) (k0_pay9 (F := Ideal) cb) = s
  generalize k0_pay12 (F := Ideal) (k0_pay9 (F := Ideal) cb) = c
  unfold k0_pay16
  generalize k0_pay14 (F := Ideal) w x = p
  pointwise [Vq.nz, Vq.eps]
  rw [Vq.ofBits_top]

variable (v : IVec S1024x1024 32) (w : IVec S1024x1024 1) (t : Fin 1024)

/-- The codes of a block over its mask, at an index. -/
theorem p1_at : k0_pay1 (iota .tc S1024x1024 32 [0] iota_S1024x1024_d0_w32) w (ix2 0 t)
    = Finset.univ.fold IntOp.minsi 2147483647#32 fun x : Fin 1024 => Scalar.select (w (ix2 x t)) (BitVec.ofNat 32 x.val) 1024#32 := by
  pointwise [k0_pay1]

/-- The stored codes of a block are its codes. -/
theorem p2_at : k0_pay2 v w (ix3 0 0 t) = k0_pay1 v w (ix2 0 t) := by
  pointwise [k0_pay2]

/-- The quantised projection of a block over its codes, at an index where the code is `i`: the row `i` of the codebook. -/
theorem p3_at (cb : FVec Ideal S1024x64 .f32) (l : Fin 64) (i : Fin 1024)
    (hi : k0_pay1 (iota .tc S1024x1024 32 [0] iota_S1024x1024_d0_w32) w (ix2 0 t) = BitVec.ofNat 32 i.val) :
    k0_pay3 (F := Ideal) (iota .tc S1024x1024 32 [0] iota_S1024x1024_d0_w32) w (k0_pay11 (F := Ideal) (k0_pay10 (F := Ideal) cb)) (ix2 l t)
      = cb (ix2 i l) := by
  pointwise [k0_pay3]
  simp only [cbt_at, hi]
  exact Vq.sum_onehot i fun x => cb (ix2 x l)

/-- The stored quantised projection of a block is its quantised projection. -/
theorem p4_at (cb : FVec Ideal S64x1024 .f32) (l : Fin 64) :
    k0_pay4 (F := Ideal) v w cb (ix3 0 l t) = k0_pay3 (F := Ideal) v w cb (ix2 l t) := by
  pointwise [k0_pay4]

/-- The stored projection of a block is its projection. -/
theorem p15_at (x : FVec Ideal S64x1024 .f32) (y : FVec Ideal S1x1024x1024 .f32) (l : Fin 64) :
    k0_pay15 (F := Ideal) x y (ix3 0 l t) = k0_pay14 (F := Ideal) x y (ix2 l t) := by
  pointwise [k0_pay15]

/-- The stored partial loss of a block: the sum of its squared differences. -/
theorem p5_at (u : FVec Ideal S64x1024 .f32) (cb : FVec Ideal S64x1024 .f32) :
    k0_pay5 (F := Ideal) u v w cb (ix3 0 0 0) = ∑ l : Fin 64, ∑ t : Fin 1024,
      (u (ix2 l t) - k0_pay3 (F := Ideal) v w cb (ix2 l t)) * (u (ix2 l t) - k0_pay3 (F := Ideal) v w cb (ix2 l t)) := by
  pointwise [k0_pay5]

/-- The second projection of a block at an index. -/
theorem p6_at (cb : FVec Ideal S64x1024 .f32) (o : FVec Ideal S1024x64 .f32) (k : Fin 1024) :
    k0_pay6 (F := Ideal) v w cb o (ix3 0 k t) = ∑ l : Fin 64, o (ix2 k l) * k0_pay3 (F := Ideal) v w cb (ix2 l t) := by
  pointwise [k0_pay6]

end Cert.KernelIdeal.At

end
-- ==== Proof.Blocks.lean ====
/-
  The blocks a grid point stores, read at an index as functions of the argument arrays: point `t` holds the tokens
  `1024 · (t mod 2) …` of the batch entry `t / 2`.
-/
module

public import proofs.«01_k».proof.Proof.Points
public import proofs.«01_k».proof.Proof.KerAt

@[expose] public section

set_option maxRecDepth 16384

noncomputable section

open Idealize.ShloMosaic Idealize.ShloMosaic.TcCoe Idealize.SL.Sem
open Idealize.ShloMosaic.Pipeline (Dat)

namespace Cert.KernelIdeal.Blocks

open Cert.KernelIdeal Cert.KernelIdeal.Gen Cert.KernelIdeal.Points Cert.KernelIdeal.At

variable (m : (ℓ : Loc nD τ sig) → Buf (Elt Ideal) ℓ) (c : Dev nD)

/-- The batch entry of a point, and the token at a column of its block. -/
def bat (t : Fin 16) : Fin 8 := ⟨t.val / 2, by omega⟩
def tok (t : Fin 16) (s : Fin 1024) : Fin 2048 := ⟨t.val % 2 * 1024 + s.val, by omega⟩

/-- The projected input, the codes, the quantised projection, its second projection and the partial losses, over the
    argument arrays. -/
def P : FVec Ideal S8x64x2048 .f32 := fun j => ∑ a : Fin 1024, WI m c (ix2 (j 1) a) * X m c (ix3 (j 0) a (j 2))
def K (b : Fin 8) (t : Fin 2048) : Fin 1024 := Vq.code (fun k => P m c (ix3 b k t)) (fun j k => CB m c (ix2 j k))
def QP : FVec Ideal S8x64x2048 .f32 := fun j => CB m c (ix2 (K m c (j 0) (j 2)) (j 1))
def QUANT : FVec Ideal S8x1024x2048 .f32 := fun j => ∑ l : Fin 64, WO m c (ix2 (j 1) l) * QP m c (ix3 (j 0) l (j 2))
def CODES : IVec S16x1x1024 32 := fun j => BitVec.ofNat 32 (K m c (bat (j 0)) (tok (j 0) (j 2))).val
def LOSS : FVec Ideal S16x1x1 .f32 := fun j => ∑ l : Fin 64, ∑ s : Fin 1024,
  (P m c (ix3 (bat (j 0)) l (tok (j 0) s)) - QP m c (ix3 (bat (j 0)) l (tok (j 0) s)))
    * (P m c (ix3 (bat (j 0)) l (tok (j 0) s)) - QP m c (ix3 (bat (j 0)) l (tok (j 0) s)))

/-- The input's block at a point, at an index. -/
theorem xblk_at (t : Fin cfg0.N) (k s : Fin 1024) : iblk m c 0 t (ix3 0 k s : S1x1024x1024.Idx) = X m c (ix3 (bat t) k (tok t s)) := by
  unfold X bat tok
  blk_point [iblk, V, idx t]

/-- A block's projection is the projection at its tokens. -/
theorem proj_at (t : Fin cfg0.N) (k : Fin 64) (s : Fin 1024) :
    k0_pay14 (F := Ideal) (WI m c) (iblk m c 0 t) (ix2 k s) = P m c (ix3 (bat t) k (tok t s)) := by
  rw [p14_at]
  exact Finset.sum_congr rfl fun a _ => congrArg _ (xblk_at m c t a s)

/-- A block's codes are the codes at its tokens. -/
theorem code_at (t : Fin cfg0.N) (s : Fin 1024) :
    k0_pay1 iota0 (mask m c t) (ix2 0 s) = BitVec.ofNat 32 (K m c (bat t) (tok t s)).val := by
  unfold iota0
  rw [p1_at]
  unfold mask CN2 CSQ
  simp only [mask_at, proj_at]
  exact (Vq.isCode_fold _).eq_best

/-- A block's quantised projection is the quantised projection at its tokens. -/
theorem look_at (t : Fin cfg0.N) (l : Fin 64) (s : Fin 1024) :
    k0_pay3 (F := Ideal) iota0 (mask m c t) (CBT m c) (ix2 l s) = QP m c (ix3 (bat t) l (tok t s)) :=
  p3_at (mask m c t) s (CB m c) l _ (code_at m c t s)

theorem codesB_at (t : Fin cfg0.N) (s : Fin 1024) : codesB m c t (ix3 0 0 s) = CODES m c (ix3 t 0 s) :=
  (p2_at _ _ s).trans (code_at m c t s)

theorem xpB_at (t : Fin cfg0.N) (l : Fin 64) (s : Fin 1024) : xpB m c t (ix3 0 l s) = P m c (ix3 (bat t) l (tok t s)) :=
  (p15_at s _ _ l).trans (proj_at m c t l s)

theorem qpB_at (t : Fin cfg0.N) (l : Fin 64) (s : Fin 1024) : qpB m c t (ix3 0 l s) = QP m c (ix3 (bat t) l (tok t s)) :=
  (p4_at _ _ s _ l).trans (look_at m c t l s)

theorem quantB_at (t : Fin cfg0.N) (k s : Fin 1024) : quantB m c t (ix3 0 k s) = QUANT m c (ix3 (bat t) k (tok t s)) :=
  (p6_at _ _ s _ _ k).trans (Finset.sum_congr rfl fun l _ => congrArg _ (look_at m c t l s))

theorem lossB_at (t : Fin cfg0.N) : lossB m c t (ix3 0 0 0) = LOSS m c (ix3 t 0 0) := by
  unfold lossB
  rw [p5_at]
  simp only [proj_at, look_at]
  rfl

/-- The codes after the region, one row of 1024 tokens per point. -/
theorem arr6 : (dats m 0 c).arrAt 6 cfg0.N = CODES m c := by
  refine (dats m 0 c).arrAt_eq_of_covers 6 _ (by decide +kernel) fun t _ y => ?_
  blk_simp
  rw [after0_6, (results m c t).1]
  have hy : ∀ y : S1x1x1024.Idx, codesB m c t y = CODES m c (ix3 t 0 (y 2)) := fun y => by
    obtain ⟨y0, y1, y2, rfl⟩ : ∃ y0 y1 y2, y = ix3 y0 y1 y2 := ⟨y 0, y 1, y 2, eq_ix3 y⟩
    obtain rfl : y0 = 0 := Subsingleton.elim _ _
    obtain rfl : y1 = 0 := Subsingleton.elim _ _
    exact codesB_at m c t y2
  refine (hy y).trans (congrArg _ ?_)
  blk_ext [idx t]

/-- The second projection after the region. -/
theorem arr7 : (dats m 0 c).arrAt 7 cfg0.N = QUANT m c := by
  refine (dats m 0 c).arrAt_eq_of_covers 7 _ (by decide +kernel) fun t _ y => ?_
  blk_simp
  rw [after0_7, (results m c t).2.1]
  have hy : ∀ y : S1x1024x1024.Idx, quantB m c t y = QUANT m c (ix3 (bat t) (y 1) (tok t (y 2))) := fun y => by
    obtain ⟨y0, y1, y2, rfl⟩ : ∃ y0 y1 y2, y = ix3 y0 y1 y2 := ⟨y 0, y 1, y 2, eq_ix3 y⟩
    obtain rfl : y0 = 0 := Subsingleton.elim _ _
    exact quantB_at m c t y1 y2
  refine (hy y).trans (congrArg _ ?_)
  unfold bat tok
  blk_ext [idx t]

/-- The projected input after the region. -/
theorem arr8 : (dats m 0 c).arrAt 8 cfg0.N = P m c := by
  refine (dats m 0 c).arrAt_eq_of_covers 8 _ (by decide +kernel) fun t _ y => ?_
  blk_simp
  rw [after0_8, (results m c t).2.2.1]
  have hy : ∀ y : S1x64x1024.Idx, xpB m c t y = P m c (ix3 (bat t) (y 1) (tok t (y 2))) := fun y => by
    obtain ⟨y0, y1, y2, rfl⟩ : ∃ y0 y1 y2, y = ix3 y0 y1 y2 := ⟨y 0, y 1, y 2, eq_ix3 y⟩
    obtain rfl : y0 = 0 := Subsingleton.elim _ _
    exact xpB_at m c t y1 y2
  refine (hy y).trans (congrArg _ ?_)
  unfold bat tok
  blk_ext [idx t]

/-- The quantised projection after the region. -/
theorem arr9 : (dats m 0 c).arrAt 9 cfg0.N = QP m c := by
  refine (dats m 0 c).arrAt_eq_of_covers 9 _ (by decide +kernel) fun t _ y => ?_
  blk_simp
  rw [after0_9, (results m c t).2.2.2.1]
  have hy : ∀ y : S1x64x1024.Idx, qpB m c t y = QP m c (ix3 (bat t) (y 1) (tok t (y 2))) := fun y => by
    obtain ⟨y0, y1, y2, rfl⟩ : ∃ y0 y1 y2, y = ix3 y0 y1 y2 := ⟨y 0, y 1, y 2, eq_ix3 y⟩
    obtain rfl : y0 = 0 := Subsingleton.elim _ _
    exact qpB_at m c t y1 y2
  refine (hy y).trans (congrArg _ ?_)
  unfold bat tok
  blk_ext [idx t]

/-- The partial losses after the region, one per point. -/
theorem arr10 : (dats m 0 c).arrAt 10 cfg0.N = LOSS m c := by
  refine (dats m 0 c).arrAt_eq_of_covers 10 _ (by decide +kernel) fun t _ y => ?_
  blk_simp
  rw [after0_10, (results m c t).2.2.2.2]
  have hy : ∀ y : S1x1x1.Idx, lossB m c t y = LOSS m c (ix3 t 0 0) := fun y => by
    obtain ⟨y0, y1, y2, rfl⟩ : ∃ y0 y1 y2, y = ix3 y0 y1 y2 := ⟨y 0, y 1, y 2, eq_ix3 y⟩
    obtain rfl : y0 = 0 := Subsingleton.elim _ _
    obtain rfl : y1 = 0 := Subsingleton.elim _ _
    obtain rfl : y2 = 0 := Subsingleton.elim _ _
    exact lossB_at m c t
  refine (hy y).trans (congrArg _ ?_)
  blk_ext [idx t]

end Cert.KernelIdeal.Blocks

end
-- ==== Proof.KerRun.lean ====
/-
  The run of the kernel: its result arrays over the argument arrays. The codes are the region's rows of codes laid out
  as one row of tokens per batch entry, the loss the sum of the region's partial losses over the number of entries.
-/
module

public import proofs.«01_k».proof.Proof.Blocks
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.KernelIdeal.Blocks

open Cert.KernelIdeal Cert.KernelIdeal.Gen Cert.KernelIdeal.Points

variable (m : (ℓ : Loc nD τ sig) → Buf (Elt Ideal) ℓ)

/-- The codes, one row of tokens per batch entry, and the loss. -/
def codesOut (c : Dev nD) : IVec S8x2048 32 := shapeCast S8x2048 (CODES m c) shapeCasts_S16x1x1024_S8x2048
def lossOut (c : Dev nD) : FVec Ideal S_ .f32 :=
  Host.divf (Host.reduceAdd (LOSS m c) (constant (F := Ideal) S_ .f32 0x00000000#32) reducesTo_S16x1x1_S_d0_1_2 h_S_)
    (constant (F := Ideal) S_ .f32 0x49800000#32)

/-- Each window stages its own array. -/
theorem arrRef_inj : Function.Injective (Pipeline.arrRef spec0) := by decide

/-- What the lines after the region find in the array of codes and in the partial losses. -/
theorem exit6 (c : Dev nD) : Pipeline.withArrays spec0 c (V0 m c) (fun w => (dats m 0 c).arrAt w (cfgs 0).N) (Proc.devRef .tc main_v4_0)
    = CODES m c :=
  (Pipeline.withArrays_arr spec0 arrRef_inj c (V0 m c) _ 6).trans (arr6 m c)
theorem exit10 (c : Dev nD) : Pipeline.withArrays spec0 c (V0 m c) (fun w => (dats m 0 c).arrAt w (cfgs 0).N) (Proc.devRef .tc main_v4_4)
    = LOSS m c :=
  (Pipeline.withArrays_arr spec0 arrRef_inj c (V0 m c) _ 10).trans (arr10 m c)

/-- The lines after the region lay the codes out one row of tokens per batch entry. -/
theorem tail_codes (c : Dev nD) : Pipeline.afterTail₀ cfgs (dats m) 0 (V0 m) [hostOps1] c main_v5 = codesOut m c := by
  have h := exit6 m c
  unfold Pipeline.afterTail₀
  generalize Pipeline.withArrays (cfgs 0).spec c (V0 m c) (fun w => (dats m 0 c).arrAt w (cfgs 0).N) = W at h ⊢
  unfold codesOut
  rw [← h]
  simp only [List.flatten_cons, List.flatten_nil, List.append_nil]
  after_results
  rfl

/-- The lines after the region sum the partial losses and divide by the number of entries. -/
theorem tail_loss (c : Dev nD) : Pipeline.afterTail₀ cfgs (dats m) 0 (V0 m) [hostOps1] c main_v7 = lossOut m c := by
  have h := exit10 m c
  unfold Pipeline.afterTail₀
  generalize Pipeline.withArrays (cfgs 0).spec c (V0 m c) (fun w => (dats m 0 c).arrAt w (cfgs 0).N) = W at h ⊢
  unfold lossOut
  rw [← h]
  simp only [List.flatten_cons, List.flatten_nil, List.append_nil]
  after_results

/-- The kernel runs from any memory with its results at these arrays and its arguments unchanged. -/
theorem run (g : Dev nD → PrngReg) :
    θ_run (defs (F := Ideal)) (onTc (τ := τ) (main (F := Ideal))) ⟨m, fun _ => 0, g⟩ (fun r => ∀ c : Dev nD,
      r.2.mem ((c.tc : Thread nD τ).loc main_v5) = codesOut m c
      ∧ r.2.mem ((c.tc : Thread nD τ).loc main_v4_1) = QUANT m c
      ∧ r.2.mem ((c.tc : Thread nD τ).loc main_v7) = lossOut m c
      ∧ r.2.mem ((c.tc : Thread nD τ).loc main_v4_2) = P m c
      ∧ r.2.mem ((c.tc : Thread nD τ).loc main_v4_3) = QP m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) := by
  run_from run_main m g
  · exact tail_codes m c
  · exact arr7 m c
  · exact tail_loss m c
  · exact arr8 m c
  · exact arr9 m c
  · exact W_main_arg2 m (dats m) c
  · exact W_main_arg3 m (dats m) c
  · exact W_main_arg4 m (dats m) c
  · exact W_main_arg5 m (dats m) c

end Cert.KernelIdeal.Blocks

end
-- ==== Proof.RefAt.lean ====
/-
  The reference's stages read at an index, over coordinates.
-/
module

public import proofs.«01_k».proof.Proof.RefRun
public import proofs.«01_k».proof.Proof.Spec

@[expose] public section

set_option maxRecDepth 16384

noncomputable section

open Idealize.ShloMosaic Idealize.ShloMosaic.TcCoe Idealize.SL.Sem

namespace Cert.ReferenceIdeal.Ref

open Cert.ReferenceIdeal Cert.ReferenceIdeal.Gen

/-- The first weight, normalised, at an index. -/
theorem wIn_at (v : FVec Ideal S64x1024x1 .f32) (g : FVec Ideal S64x1x1 .f32) (k : Fin 64) (l : Fin 1024) :
    wIn v g (ix3 k l 0) = Vq.wn (fun a b => v (ix3 a b 0)) (fun a => g (ix3 a 0 0)) k l := by
  pointwise [wIn, Vq.wn]
  simp only [Fin.sum_univ_one]

/-- The second weight, normalised, at an index. -/
theorem wOut_at (v : FVec Ideal S1024x64x1 .f32) (g : FVec Ideal S1024x1x1 .f32) (k : Fin 1024) (l : Fin 64) :
    wOut v g (ix3 k l 0) = Vq.wn (fun a b => v (ix3 a b 0)) (fun a => g (ix3 a 0 0)) k l := by
  pointwise [wOut, Vq.wn]
  simp only [Fin.sum_univ_one]

/-- The projected input at an index. -/
theorem XP_at (x : FVec Ideal S8x1024x2048 .f32) (v : FVec Ideal S64x1024x1 .f32) (g : FVec Ideal S64x1x1 .f32)
    (b : Fin 8) (k : Fin 64) (t : Fin 2048) :
    XP x v g (ix3 b k t) = ∑ c : Fin 1024, x (ix3 b c t) * Vq.wn (fun a b => v (ix3 a b 0)) (fun a => g (ix3 a 0 0)) k c := by
  pointwise [XP, xp]
  exact Finset.sum_congr rfl fun c _ => congrArg _ (wIn_at v g k c)

/-- The normalised projection at an index. -/
theorem e_at (p : FVec Ideal S8x64x2048 .f32) (b : Fin 8) (k : Fin 64) (t : Fin 2048) :
    e p (ix3 b t k) = Vq.nz (fun a => p (ix3 b a t)) k := by
  pointwise [e, Vq.nz, Vq.eps]

/-- The normalised codebook at an index. -/
theorem cn_at (cb : FVec Ideal S1024x64 .f32) (j : Fin 1024) (k : Fin 64) :
    cn cb (ix2 j k) = Vq.nz (fun a => cb (ix2 j a)) k := by
  pointwise [cn, Vq.nz, Vq.eps]

/-- The squared distances at an index. -/
theorem d2_at (p : FVec Ideal S8x64x2048 .f32) (cb : FVec Ideal S1024x64 .f32) (b : Fin 8) (t : Fin 2048) (j : Fin 1024) :
    d2 (e p) (cn cb) (ix3 b t j) = Vq.dist (fun k => p (ix3 b k t)) (fun j k => cb (ix2 j k)) j := by
  pointwise [d2]
  simp only [e_at, cn_at, Vq.ofBits_two]
  rfl

/-- A pair is in the fiber over `j` exactly when it is the pair of an index that drops to `j`. -/
theorem mem_fiber {α β : Type} {s t : Shape} {axes : List (Fin s.rank)} (x : s.Idx → α) (y : s.Idx → β) (h : s.ReducesTo axes t)
    (j : t.Idx) (p : α × β) : p ∈ Host.argReduceFiber x y h j ↔ ∃ i, h.drop i = j ∧ p = (x i, y i) := by
  unfold Host.argReduceFiber
  simp only [List.mem_map, List.mem_filter, List.mem_finRange, true_and, decide_eq_true_eq]
  constructor
  · rintro ⟨n, hn, rfl⟩; exact ⟨_, hn, rfl⟩
  · rintro ⟨i, hi, rfl⟩; exact ⟨s.rowMajor i, by simpa using hi, by simp⟩

/-- The printed reducer keeps the pair that comes first by value and then by index. -/
theorem reducer_eq (a b : EReal × BitVec 32) : reducer_argmin_f32_i32 (F := Ideal) a b
    = if a.1 < b.1 ∨ (a.1 = b.1 ∧ a.2.toInt < b.2.toInt) then a else b := by
  obtain ⟨a1, a2⟩ := a
  obtain ⟨b1, b2⟩ := b
  have h0 : (FloatOps.cmpf (F := Ideal) (φ := .f32) .une a1 a1) = 0#1 := by simp [Ideal.cmpf_def, Ideal.cmp]
  have h1 : (FloatOps.cmpf (F := Ideal) (φ := .f32) .olt a1 b1) = BitVec.ofBool (decide (a1 < b1)) := rfl
  have h2 : (FloatOps.cmpf (F := Ideal) (φ := .f32) .oeq a1 b1) = BitVec.ofBool (decide (a1 = b1)) := rfl
  have h3 : IntOp.cmpi .slt a2 b2 = BitVec.ofBool (decide (a2.toInt < b2.toInt)) := rfl
  simp only [reducer_argmin_f32_i32, h0, h1, h2, h3]
  by_cases c1 : a1 < b1
  · by_cases c2 : a1 = b1 <;> by_cases c3 : a2.toInt < b2.toInt <;> simp [c1, c2, c3, Scalar.select, IntOp.ori, IntOp.andi]
  · by_cases c2 : a1 = b1 <;> by_cases c3 : a2.toInt < b2.toInt <;> simp [c1, c2, c3, Scalar.select, IntOp.ori, IntOp.andi]

/-- An arg-min whose fiber over `j` holds the pairs of `D`'s values and their indices finds `D`'s code. -/
theorem argReduce_isCode {s t u : Shape} {axes : List (Fin s.rank)} (x : FVec Ideal s .f32) (y : IVec s 32)
    (ix : FVec Ideal u .f32) (iy : IVec u 32) (h : s.ReducesTo axes t) (hu : 0 < u.numel) (j : t.Idx)
    (hix : ∀ i, ix i = (⊤ : EReal)) (hiy : ∀ i, iy i = 0#32) (D : Fin 1024 → EReal)
    (hD : ∀ p : EReal × BitVec 32, (∃ i, h.drop i = j ∧ p = (x i, y i)) ↔ ∃ k : Fin 1024, p = (D k, BitVec.ofNat 32 k.val))
    (c : t.Idx → BitVec 32) (hc : c = fun j => (Host.argReduce (reducer_argmin_f32_i32 (F := Ideal)) x y ix iy h hu j).2) :
    Vq.IsCode D (c j) := by
  rw [hc]
  show Vq.IsCode D (Host.argReduce (reducer_argmin_f32_i32 (F := Ideal)) x y ix iy h hu j).2
  rw [Ideal.argReduce_eq_reduce2, Host.reduce2_eq_foldl_fiber, hix, hiy]
  exact Vq.isCode_foldl _ reducer_eq _ _ fun p => (mem_fiber x y h j p).trans (hD p)

/-- An index of the distances drops to a token exactly when its first two coordinates are the token's. -/
theorem drop_iff (h : S8x2048x1024.ReducesTo [2] S8x2048) (i : S8x2048x1024.Idx) (b : Fin 8) (t : Fin 2048) :
    h.drop i = ix2 b t ↔ ∃ k : Fin 1024, i = ix3 b t k := by
  have e0 : (h.drop i 0 : Nat) = i 0 := h.drop_apply_val_of_eq i 0 0
  have e1 : (h.drop i 1 : Nat) = i 1 := h.drop_apply_val_of_eq i 1 1
  constructor
  · intro hi
    rw [hi] at e0 e1
    refine ⟨i 2, funext fun a => ?_⟩
    match a with
    | ⟨0, _⟩ => exact Fin.ext e0.symm
    | ⟨1, _⟩ => exact Fin.ext e1.symm
    | ⟨2, _⟩ => rfl
  · rintro ⟨k, rfl⟩
    funext a
    match a with
    | ⟨0, _⟩ => exact Fin.ext e0
    | ⟨1, _⟩ => exact Fin.ext e1

/-- The codes over distances `d` are the indices the arg-min of `d` finds. -/
theorem codes_eq (d : FVec Ideal S8x2048x1024 .f32) : codes d = fun j =>
    (Host.argReduce (reducer_argmin_f32_i32 (F := Ideal)) d (iotaInDim S8x2048x1024 32 2)
      (constant (F := Ideal) S_ .f32 0x7F800000#32) (constantI S_ 32 0#32) reducesTo_S8x2048x1024_S8x2048_d2 h_S_ j).2 := rfl

/-- The codes over distances `d` at an index. -/
theorem codes_isCode (d : FVec Ideal S8x2048x1024 .f32) (b : Fin 8) (t : Fin 2048) :
    Vq.IsCode (fun j => d (ix3 b t j)) (codes d (ix2 b t)) := by
  refine argReduce_isCode _ _ _ _ _ _ _ (fun _ => Vq.ofBits_top) (fun _ => rfl) _ (fun p => ?_) (codes d) (codes_eq d)
  constructor
  · rintro ⟨i, hi, rfl⟩
    obtain ⟨k, rfl⟩ := (drop_iff _ i b t).1 hi
    exact ⟨k, rfl⟩
  · rintro ⟨k, rfl⟩
    exact ⟨ix3 b t k, (drop_iff _ _ b t).2 ⟨k, rfl⟩, rfl⟩

/-- The codes at an index. -/
theorem codes_at (p : FVec Ideal S8x64x2048 .f32) (cb : FVec Ideal S1024x64 .f32) (b : Fin 8) (t : Fin 2048) :
    codes (d2 (e p) (cn cb)) (ix2 b t)
      = BitVec.ofNat 32 (Vq.code (fun k => p (ix3 b k t)) (fun j k => cb (ix2 j k))).val := by
  have h := codes_isCode (d2 (e p) (cn cb)) b t
  rw [show (fun j => d2 (e p) (cn cb) (ix3 b t j)) = Vq.dist (fun k => p (ix3 b k t)) (fun j k => cb (ix2 j k)) from
    funext fun j => d2_at p cb b t j] at h
  exact h.eq_best

end Cert.ReferenceIdeal.Ref

end
-- ==== Proof.RefTake.lean ====
/-
  The reference's read of the codebook at its codes, its losses and its second projection, at an index.
-/
module

public import proofs.«01_k».proof.Proof.RefAt

@[expose] public section

set_option maxRecDepth 16384

noncomputable section

open Idealize.ShloMosaic Idealize.ShloMosaic.TcCoe Idealize.SL.Sem

namespace Cert.ReferenceIdeal.Ref

open Cert.ReferenceIdeal Cert.ReferenceIdeal.Gen

/-- A code is not negative, and at most 1023. -/
theorem slt_zero (i : Fin 1024) : IntOp.cmpi .slt (BitVec.ofNat 32 i.val) 0#32 = 0#1 := by
  have h : (BitVec.ofNat 32 i.val).toInt = i.val := Vq.toInt_ofNat (by omega)
  have h' : ¬ ((i.val : Int) < 0) := by omega
  simp only [IntOp.cmpi, BitVec.slt, h, BitVec.toInt_zero, h', decide_false, BitVec.ofBool_false]
  rfl
theorem sge_zero (i : Fin 1024) : IntOp.cmpi .sge (BitVec.ofNat 32 i.val) 0#32 = 1#1 := by
  have h : (BitVec.ofNat 32 i.val).toInt = i.val := Vq.toInt_ofNat (by omega)
  simp [IntOp.cmpi, BitVec.sle, h]
theorem sle_last (i : Fin 1024) : IntOp.cmpi .sle (BitVec.ofNat 32 i.val) 1023#32 = 1#1 := by
  have h : (BitVec.ofNat 32 i.val).toInt = i.val := Vq.toInt_ofNat (by omega)
  have h' : (1023#32 : BitVec 32).toInt = 1023 := by decide
  have : (i.val : Int) ≤ 1023 := by omega
  simp [IntOp.cmpi, BitVec.sle, h, h', this]

variable (k : IVec S8x2048 32) (b : Fin 8) (t : Fin 2048) (i : Fin 1024) (hk : k (ix2 b t) = BitVec.ofNat 32 i.val)
include hk

/-- A code is read as it is. -/
theorem wrapped_at : wrapped k (ix3 b t 0) = BitVec.ofNat 32 i.val := by
  pointwise [wrapped]
  rw [hk, slt_zero]
  rfl

/-- A code names a row. -/
theorem inRange_at : inRange (wrapped k) (ix2 b t) = 1#1 := by
  pointwise [inRange]
  have h := wrapped_at k b t i hk
  rw [show (Finset.univ : Finset (Fin 1)) = {0} from rfl, Finset.fold_singleton, h, sge_zero, sle_last]
  rfl

/-- The gather reads the row the code names. -/
theorem gather_at (cb : FVec Ideal S1024x64 .f32) (l : Fin 64) :
    Host.gather gather_S1024x64_S8x2048x1_S8x2048x64_2_0_n_n_0_2_164 cb (wrapped k) (ix3 b t l) = cb (ix2 i l) := by
  have hw := wrapped_at k b t i hk
  generalize wrapped k = w at hw
  unfold Host.gather
  refine congrArg cb (funext fun a => Fin.ext ?_)
  generalize hd : gather_S1024x64_S8x2048x1_S8x2048x64_2_0_n_n_0_2_164 = d
  have hN : ∀ a', a' ∉ d.operandBatchingDims := fun a' => by rw [← hd]; exact List.not_mem_nil
  have hC : (0 : Fin 2) ∈ d.collapsedSliceDims := by rw [← hd]; exact List.mem_singleton.2 rfl
  match a with
  | ⟨0, _⟩ =>
    have hm : (0 : Fin 2) ∈ d.startIndexMap := by rw [← hd]; exact List.mem_singleton.2 rfl
    show d.start (ix3 b t l) w 0 + d.batchCoord (ix3 b t l) 0 + d.offCoord (ix3 b t l) 0 = i.val
    rw [d.batchCoord_eq_zero _ _ (hN 0), d.offCoord_eq_zero _ _ (fun h => ((d.mem_sKept 0).1 h).1 hC)]
    simp only [Nat.add_zero]
    unfold GatherDims.start
    rw [dif_pos hm]
    have hsi : d.siIdx (ix3 b t l) ⟨d.startIndexMap.idxOf 0, List.idxOf_lt_length_iff.2 hm⟩ = ix3 b t 0 := by
      subst hd
      funext b'
      match b' with
      | ⟨0, _⟩ => rfl
      | ⟨1, _⟩ => rfl
      | ⟨2, _⟩ => rfl
    rw [hsi, hw]
    have hT : (BitVec.ofNat 32 i.val).toInt = i.val := Vq.toInt_ofNat (by omega)
    rw [hT]
    subst hd
    show min ((i.val : Int).toNat) (1024 - 1) = i.val
    omega
  | ⟨1, _⟩ =>
    have hm : (1 : Fin 2) ∉ d.startIndexMap := by rw [← hd]; decide
    show d.start (ix3 b t l) w 1 + d.batchCoord (ix3 b t l) 1 + d.offCoord (ix3 b t l) 1 = l.val
    rw [d.batchCoord_eq_zero _ _ (hN 1)]
    unfold GatherDims.start
    rw [dif_neg hm]
    subst hd
    simp only [Nat.zero_add, Nat.add_zero]
    rfl

/-- The codebook's rows at the codes, at an index: the row the code names. -/
theorem q_at (cb : FVec Ideal S1024x64 .f32) (l : Fin 64) : q cb k (ix3 b l t) = cb (ix2 i l) := by
  pointwise [q, taken]
  rw [inRange_at k b t i hk, gather_at k b t i hk]
  rfl

end Cert.ReferenceIdeal.Ref

namespace Cert.ReferenceIdeal.Ref

open Cert.ReferenceIdeal Cert.ReferenceIdeal.Gen

/-- The codebook's rows over the arguments, at an index. -/
theorem Q_at (x : FVec Ideal S8x1024x2048 .f32) (cb : FVec Ideal S1024x64 .f32) (v : FVec Ideal S64x1024x1 .f32)
    (g : FVec Ideal S64x1x1 .f32) (b : Fin 8) (l : Fin 64) (t : Fin 2048) :
    Q x cb v g (ix3 b l t) = cb (ix2 (Vq.code (fun k => XP x v g (ix3 b k t)) (fun j k => cb (ix2 j k))) l) :=
  q_at _ b t _ (codes_at (XP x v g) cb b t) cb l

/-- The straight-through estimate at an index where the projected input is real: the quantised projection. -/
theorem qp_at (p u : FVec Ideal S8x64x2048 .f32) (j : S8x64x2048.Idx) (hr : ∃ r : ℝ, p j = (r : EReal)) : qp p u j = u j := by
  obtain ⟨r, hr⟩ := hr
  show p j + (u j - p j) = u j
  rw [hr]
  induction u j using EReal.rec with
  | bot => simp
  | top => simp
  | coe s => rw [← EReal.coe_sub, ← EReal.coe_add]; congr 1; ring

/-- The second projection at an index. -/
theorem quant_at (u : FVec Ideal S8x64x2048 .f32) (w : FVec Ideal S1024x64x1 .f32) (b : Fin 8) (k : Fin 1024) (t : Fin 2048) :
    quant u w (ix3 b k t) = ∑ l : Fin 64, u (ix3 b l t) * w (ix3 k l 0) := by
  pointwise [quant]

/-- The loss: the sum of the squared differences over the number of entries. -/
theorem loss_at (p u : FVec Ideal S8x64x2048 .f32) (j : S_.Idx) :
    loss p u j = Ideal.div (∑ b : Fin 8, ∑ k : Fin 64, ∑ t : Fin 2048,
      (p (ix3 b k t) - u (ix3 b k t)) * (p (ix3 b k t) - u (ix3 b k t))) (Ideal.ofBits .f32 1233125376#32) := by
  pointwise [loss]

end Cert.ReferenceIdeal.Ref

end
-- ==== Proof.Finite.lean ====
/-
  What the precondition says: the input and the first weight's scale are real at every index, and no row of the weight's
  direction is zero. Then the projected input is real at every index.
-/
module

public import proofs.«01_k».proof.Proof.Spec
public import proofs.«01_k».proof.Pre_finite_inputs
public import Idealize.ShloMosaic.Lib.ReduceAll

@[expose] public section

set_option maxRecDepth 16384

noncomputable section

open Idealize.ShloMosaic

namespace Vq

/-- A weight-normalised weight is real where the scale is real and the direction's row is not zero: an infinite entry in
    the row makes its length infinite, and the weight zero. -/
theorem wn_real {R C : ℕ} (v : Fin R → Fin C → EReal) (g : Fin R → EReal) (k : Fin R) (l : Fin C)
    (hg : ∃ r : ℝ, g k = (r : EReal)) (h0 : 0 < ∑ x, v k x * v k x) : ∃ r : ℝ, wn v g k l = (r : EReal) := by
  obtain ⟨a, ha⟩ := hg
  have hv : ∑ x, v k x * v k x ≠ ⊤ → v k l ≠ ⊤ ∧ v k l ≠ ⊥ := fun hT => by
    have hle := Finset.single_le_sum (f := fun x => v k x * v k x) (fun x _ => mul_self_nonneg' (v k x)) (Finset.mem_univ l)
    constructor <;> intro hk <;> simp only [hk] at hle <;> exact hT (top_le_iff.1 (by simpa using hle))
  unfold wn
  generalize ∑ x, v k x * v k x = S at h0 hv
  induction S using EReal.rec with
  | bot => exact absurd h0 (by simp)
  | top => exact ⟨0, by rw [show Ideal.sqrt ⊤ = ⊤ from rfl, Ideal.div, if_neg (by simp), EReal.inv_top, mul_zero, EReal.coe_zero]⟩
  | coe s =>
    have h0' := EReal.coe_pos.1 h0
    obtain ⟨h1, h2⟩ := hv (EReal.coe_ne_top s)
    refine ⟨a * (v k l).toReal * (Real.sqrt s)⁻¹, ?_⟩
    rw [Ideal.sqrt_coe, if_neg (not_lt.2 h0'.le), Ideal.div, if_neg (by simpa using (Real.sqrt_pos.2 h0').ne'), EReal.coe_mul,
      EReal.coe_mul, EReal.coe_toReal h1 h2, EReal.coe_inv, ha]

/-- A sum of products of reals is real. -/
theorem sum_mul_real {n : ℕ} (f g : Fin n → EReal) (hf : ∀ x, ∃ r : ℝ, f x = (r : EReal)) (hg : ∀ x, ∃ r : ℝ, g x = (r : EReal)) :
    ∃ r : ℝ, ∑ x, f x * g x = (r : EReal) := by
  choose a ha using hf
  choose b hb using hg
  simp only [ha, hb, ← EReal.coe_mul, coe_sum]
  exact ⟨_, rfl⟩

/-- An extended real whose absolute value is below the top element is real. -/
theorem real_of_abs {a : EReal} (h : max a (-a) < ⊤) : ∃ r : ℝ, a = (r : EReal) := by
  induction a using EReal.rec with
  | bot => simp at h
  | top => simp at h
  | coe r => exact ⟨r, rfl⟩

/-- A proposition whose truth bit is one holds. -/
theorem of_ofBool {p : Prop} [Decidable p] (h : BitVec.ofBool (decide p) = 1#1) : p := by
  by_contra hp
  simp [hp] at h

end Vq

namespace Cert.Pre_finite_inputs

variable [Facts]
open Facts

/-- Every entry of an array whose comparison of absolute values with the top element is all ones is real. -/
theorem real_entry {s : Shape} {axes : List (Fin s.rank)} (x : FVec Ideal s .f32) (hb : S_.BroadcastsInDim s (![] : Fin 0 → Fin s.rank))
    (h : s.ReducesTo axes S_) (hu : 0 < S_.numel) (j : S_.Idx)
    (e : Host.reduce IntOp.andi (cmpf .olt (Host.absf x) (broadcastInDim s ![] hb (constant (F := Ideal) S_ .f32 0x7F800000#32)))
      (constantI S_ 1 1#1) h hu j = 1#1) (i : s.Idx) : ∃ r : ℝ, x i = (r : EReal) := by
  have h1 := Host.reduce_andi_all _ _ h hu j e i
  refine Vq.real_of_abs ?_
  pointwise [Vq.ofBits_top] at h1
  exact Vq.of_ofBool h1

/-- A row's sum of squares is positive where its comparison with zero is all ones. -/
theorem row_pos (v : FVec Ideal S64x1024x1 .f32) (j : S_.Idx)
    (e : Host.reduce IntOp.andi (cmpf .ogt (Host.reduceAdd (mulf v v) (constant (F := Ideal) S_ .f32 0x00000000#32) reducesTo_S64x1024x1_S64_d1_2 h_S_)
      (broadcastInDim S64 ![] bcast_S_S64 (constant (F := Ideal) S_ .f32 0x00000000#32))) (constantI S_ 1 1#1) reducesTo_S64_S_d0 h_S_ j = 1#1)
    (k : Fin 64) : 0 < ∑ l : Fin 1024, v (ix3 k l 0) * v (ix3 k l 0) := by
  have h1 := Host.reduce_andi_all _ _ reducesTo_S64_S_d0 h_S_ j e (ix1 k)
  pointwise [] at h1
  simpa only [Fin.sum_univ_one] using Vq.of_ofBool h1

/-- The precondition, entry by entry. -/
theorem read (x : FVec Ideal S8x1024x2048 .f32) (cb : FVec Ideal S1024x64 .f32) (v : FVec Ideal S64x1024x1 .f32) (g : FVec Ideal S64x1x1 .f32)
    (vo : FVec Ideal S1024x64x1 .f32) (go : FVec Ideal S1024x1x1 .f32) (h : fn (F := Ideal) x cb v g vo go = fun _ => 1#1) :
    (∀ i, ∃ r : ℝ, x i = (r : EReal)) ∧ (∀ i, ∃ r : ℝ, g i = (r : EReal))
      ∧ ∀ k : Fin 64, 0 < ∑ l : Fin 1024, v (ix3 k l 0) * v (ix3 k l 0) := by
  have h0 := congrFun h (Shape.Idx.first h_S_)
  obtain ⟨h1, h4⟩ := IntOp.andi_eq_one.1 h0
  obtain ⟨h2, h3⟩ := IntOp.andi_eq_one.1 h1
  exact ⟨real_entry x _ _ _ _ h2, real_entry g _ _ _ _ h3, row_pos v _ h4⟩

end Cert.Pre_finite_inputs

end
-- ==== Proof.Algebraic.lean ====
/-
  The kernel's results are the reference's: both are the same functions of the argument arrays where the projected input
  is real.
-/
module

public import proofs.«01_k».proof.Proof.KerRun
public import proofs.«01_k».proof.Proof.RefTake
public import proofs.«01_k».proof.Proof.Finite
public import proofs.«01_k».proof.Defs
public import proofs.«01_k».proof.Proof.Gen.Pre_finite_inputs

@[expose] public section

set_option maxRecDepth 16384

noncomputable section

open Idealize.ShloMosaic Idealize.ShloMosaic.TcCoe Idealize.SL.Sem

namespace Cert.KernelIdeal.Blocks

open Cert.KernelIdeal Cert.KernelIdeal.Gen Cert.KernelIdeal.Points Cert.KernelIdeal.At

variable (m : (ℓ : Loc nD τ sig) → Buf (Elt Ideal) ℓ) (c : Dev nD)

/-- The kernel's projected input is the reference's. -/
theorem P_eq : P m c = Cert.ReferenceIdeal.Ref.XP (X m c) (VI m c) (GI m c) := by
  funext j
  obtain ⟨b, k, t, rfl⟩ : ∃ b k t, j = ix3 b k t := ⟨j 0, j 1, j 2, eq_ix3 j⟩
  rw [Cert.ReferenceIdeal.Ref.XP_at]
  exact Finset.sum_congr rfl fun a _ => (congrArg (· * _) (wi_at (VI m c) (GI m c) k a)).trans (mul_comm _ _)

/-- So are its codes, laid out by batch entry. -/
theorem codes_eq : codesOut m c = Cert.ReferenceIdeal.Ref.CODES (X m c) (CB m c) (VI m c) (GI m c) := by
  funext j
  obtain ⟨b, t, rfl⟩ : ∃ b t, j = ix2 b t := ⟨j 0, j 1, eq_ix2 j⟩
  rw [Cert.ReferenceIdeal.Ref.CODES, Cert.ReferenceIdeal.Ref.codes_at, ← P_eq]
  have hb : bat ⟨b.val * 2 + t.val / 1024, by omega⟩ = b := Fin.ext (show (b.val * 2 + t.val / 1024) / 2 = b.val by omega)
  have ht : tok ⟨b.val * 2 + t.val / 1024, by omega⟩ ⟨t.val % 1024, by omega⟩ = t :=
    Fin.ext (show (b.val * 2 + t.val / 1024) % 2 * 1024 + t.val % 1024 = t.val by omega)
  have h : codesOut m c (ix2 b t) = CODES m c (ix3 ⟨b.val * 2 + t.val / 1024, by omega⟩ 0 ⟨t.val % 1024, by omega⟩) := by
    unfold codesOut
    generalize CODES m c = w
    pointwise []
  have h' : CODES m c (ix3 ⟨b.val * 2 + t.val / 1024, by omega⟩ 0 ⟨t.val % 1024, by omega⟩) = BitVec.ofNat 32 (K m c b t).val :=
    congrArg₂ (fun b t => BitVec.ofNat 32 (K m c b t).val) hb ht
  exact h.trans h'

/-- The quantised projection is the codebook's rows. -/
theorem QP_eq_Q : QP m c = Cert.ReferenceIdeal.Ref.Q (X m c) (CB m c) (VI m c) (GI m c) := by
  funext j
  obtain ⟨b, k, t, rfl⟩ : ∃ b k t, j = ix3 b k t := ⟨j 0, j 1, j 2, eq_ix3 j⟩
  rw [Cert.ReferenceIdeal.Ref.Q_at, ← P_eq]
  rfl

/-- The partial losses add up to the sum over all entries. -/
theorem sum_blocks (f : Fin 8 → Fin 64 → Fin 2048 → EReal) :
    ∑ n : Fin 16, ∑ l : Fin 64, ∑ s : Fin 1024, f (bat n) l (tok n s) = ∑ b : Fin 8, ∑ l : Fin 64, ∑ t : Fin 2048, f b l t := by
  rw [Fin.sum_univ_tiles 8 2 rfl]
  refine Finset.sum_congr rfl fun b _ => ?_
  rw [Finset.sum_comm]
  refine Finset.sum_congr rfl fun l _ => ?_
  rw [Fin.sum_univ_tiles 2 1024 rfl]
  refine Finset.sum_congr rfl fun h _ => Finset.sum_congr rfl fun s _ => ?_
  exact congrArg₂ (fun b t => f b l t) (Fin.ext (show (b.val * 2 + h.val) / 2 = b.val by omega))
    (Fin.ext (show (b.val * 2 + h.val) % 2 * 1024 + s.val = h.val * 1024 + s.val by omega))

/-- The kernel's loss is the reference's. -/
theorem loss_eq : lossOut m c = Cert.ReferenceIdeal.Ref.loss (P m c) (QP m c) := by
  funext j
  rw [Cert.ReferenceIdeal.Ref.loss_at]
  have h : lossOut m c j = Ideal.div (∑ n : Fin 16, LOSS m c (ix3 n 0 0)) (Ideal.ofBits .f32 1233125376#32) := by
    unfold lossOut
    generalize LOSS m c = w
    pointwise []
    simp only [Fin.sum_univ_one]
  rw [h]
  refine congrArg (Ideal.div · _) ?_
  exact sum_blocks fun b l t => (P m c (ix3 b l t) - QP m c (ix3 b l t)) * (P m c (ix3 b l t) - QP m c (ix3 b l t))

/-- The second projection is the reference's. -/
theorem QUANT_eq : QUANT m c = Cert.ReferenceIdeal.Ref.quant (QP m c) (Cert.ReferenceIdeal.Ref.wOut (VO m c) (GO m c)) := by
  funext j
  obtain ⟨b, k, t, rfl⟩ : ∃ b k t, j = ix3 b k t := ⟨j 0, j 1, j 2, eq_ix3 j⟩
  rw [Cert.ReferenceIdeal.Ref.quant_at]
  refine Finset.sum_congr rfl fun l _ => ?_
  rw [Cert.ReferenceIdeal.Ref.wOut_at]
  exact (congrArg (· * _) (wo_at (VO m c) (GO m c) k l)).trans (mul_comm _ _)

/-- The projected input is real under the precondition. -/
theorem P_real (hpre : Pre_KernelIdeal_finite_inputs m) (j : S8x64x2048.Idx) : ∃ r : ℝ, P m c j = (r : EReal) := by
  obtain ⟨hx, hg, h0⟩ := Cert.Pre_finite_inputs.read _ _ _ _ _ _ (hpre c)
  refine Vq.sum_mul_real _ _ (fun a => ?_) fun a => hx _
  have h := Vq.wn_real (fun a b => VI m c (ix3 a b 0)) (fun a => GI m c (ix3 a 0 0)) (j 1) a (hg _) (h0 (j 1))
  exact h.imp fun r e => (wi_at (VI m c) (GI m c) (j 1) a).trans e

/-- So the straight-through estimate is the codebook's row. -/
theorem QP_eq (hpre : Pre_KernelIdeal_finite_inputs m) : Cert.ReferenceIdeal.Ref.qp (P m c) (QP m c) = QP m c :=
  funext fun j => Cert.ReferenceIdeal.Ref.qp_at _ _ j (P_real m c hpre j)

/-- The reference's results over arrays equal to the kernel's arguments are the kernel's results. -/
theorem results_eq (hpre : Pre_KernelIdeal_finite_inputs m) (x : FVec Ideal S8x1024x2048 .f32) (cb : FVec Ideal S1024x64 .f32)
    (vi : FVec Ideal S64x1024x1 .f32) (gi : FVec Ideal S64x1x1 .f32) (vo : FVec Ideal S1024x64x1 .f32) (go : FVec Ideal S1024x1x1 .f32)
    (hx : x = X m c) (hcb : cb = CB m c) (hvi : vi = VI m c) (hgi : gi = GI m c) (hvo : vo = VO m c) (hgo : go = GO m c) :
    Cert.ReferenceIdeal.Ref.CODES x cb vi gi = codesOut m c
    ∧ Cert.ReferenceIdeal.Ref.quant (Cert.ReferenceIdeal.Ref.qp (Cert.ReferenceIdeal.Ref.XP x vi gi) (Cert.ReferenceIdeal.Ref.Q x cb vi gi))
        (Cert.ReferenceIdeal.Ref.wOut vo go) = QUANT m c
    ∧ Cert.ReferenceIdeal.Ref.loss (Cert.ReferenceIdeal.Ref.XP x vi gi) (Cert.ReferenceIdeal.Ref.Q x cb vi gi) = lossOut m c
    ∧ Cert.ReferenceIdeal.Ref.XP x vi gi = P m c
    ∧ Cert.ReferenceIdeal.Ref.qp (Cert.ReferenceIdeal.Ref.XP x vi gi) (Cert.ReferenceIdeal.Ref.Q x cb vi gi) = QP m c := by
  subst hx hcb hvi hgi hvo hgo
  rw [← QP_eq_Q, ← P_eq, QP_eq m c hpre]
  exact ⟨(codes_eq m c).symm, (QUANT_eq m c).symm, (loss_eq m c).symm, rfl, rfl⟩

end Cert.KernelIdeal.Blocks

namespace Cert.Proof

open Cert.KernelIdeal.Blocks

/-- From memories that agree on the arguments and meet the precondition, kernel and reference end with equal results. -/
theorem algebraic : Cert.algebraic_KernelIdeal_ReferenceIdeal_pre_finite_inputs := by
  intro m g m' g' hpre hagree
  refine ⟨fun c => codesOut m c, fun c => QUANT m c, fun c => lossOut m c, fun c => lossOut m c, fun c => P m c, fun c => QP m c, ?_, ?_⟩
  · run_from Cert.KernelIdeal.Blocks.run m g
  · refine θ_run_mono (Cert.ReferenceIdeal.Ref.run m' g') fun r hr c => ?_
    obtain ⟨r1, r2, r3, r4, r5, r6, rest⟩ := hr c
    obtain ⟨hx, hcb, hvi, hgi, hvo, hgo⟩ := hagree c
    obtain ⟨e1, e2, e3, e4, e5⟩ := results_eq m c hpre _ _ _ _ _ _ hx hcb hvi hgi hvo hgo
    exact ⟨r1.trans e1, r2.trans e2, r3.trans e3, r4.trans e3, r5.trans e4, r6.trans e5, rest⟩

end Cert.Proof

end
-- ==== Proof.lean ====
/- The certificate's assembly: each claim from its module. -/
module

public import proofs.«01_k».proof.Defs
public import proofs.«01_k».proof.Proof.Gen.Kernel.Frame
public import proofs.«01_k».proof.Proof.Gen.KernelIdeal.Frame
public import proofs.«01_k».proof.Proof.Gen.ReferenceIdeal
public import proofs.«01_k».proof.Proof.Gen.Pre_finite_inputs
public import proofs.«01_k».proof.Proof.RefRun
public import proofs.«01_k».proof.Proof.Algebraic

@[expose] public section

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    fun m ρ _ => Cert.Kernel.Gen.frame m ρ,
    fun m ρ _ => Cert.KernelIdeal.Gen.frame m ρ,
    fun m ρ _ => Cert.KernelIdeal.Gen.frame m ρ,
    Cert.ReferenceIdeal.Ref.frame,
    fun m ρ _ => Cert.ReferenceIdeal.Ref.frame m ρ trivial,
    trivial,
    Cert.Proof.algebraic⟩

end Cert.Proof

end
